-- ==== Defs.lean ====
def Pre_Kernel [hPre_offsets_in_rows : Cert.Pre_offsets_in_rows.Facts] (m : (ℓ : Loc Cert.Kernel.nD Cert.Kernel.τ Cert.Kernel.sig) → Buf (Elt Bits) ℓ) : Prop :=
  ∀ c : Dev Cert.Kernel.nD,
    (Cert.Pre_offsets_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_offsets_in_rows : Cert.Pre_offsets_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_kept_pairs [hPre_kept_pairs : Cert.Pre_kept_pairs.Facts] (m : (ℓ : Loc Cert.KernelIdeal.nD Cert.KernelIdeal.τ Cert.KernelIdeal.sig) → Buf (Elt Ideal) ℓ) : Prop :=
  ∀ c : Dev Cert.KernelIdeal.nD,
    (Cert.Pre_kept_pairs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kept_pairs [hPre_kept_pairs : Cert.Pre_kept_pairs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept_pairs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_offsets_in_rows : Cert.Pre_offsets_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_offsets_in_rows : Cert.Pre_offsets_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_kept_pairs [hKernelIdeal : Cert.KernelIdeal.Facts] [hPre_kept_pairs : Cert.Pre_kept_pairs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_pairs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_kept_pairs [hReferenceIdeal : Cert.ReferenceIdeal.Facts] [hPre_kept_pairs : Cert.Pre_kept_pairs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept_pairs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_kept_pairs [hKernelIdeal : Cert.KernelIdeal.Facts] [hReferenceIdeal : Cert.ReferenceIdeal.Facts] [hPre_kept_pairs : Cert.Pre_kept_pairs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept_pairs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_offsets_in_rows : Cert.Pre_offsets_in_rows.Facts) (hPre_kept_pairs : Cert.Pre_kept_pairs.Facts),
    quiescent_Kernel (hKernel := hKernel) (hPre_offsets_in_rows := hPre_offsets_in_rows)
    ∧ quiescent_KernelIdeal (hKernelIdeal := hKernelIdeal) (hPre_offsets_in_rows := hPre_offsets_in_rows)
    ∧ quiescent_KernelIdeal_pre_kept_pairs (hKernelIdeal := hKernelIdeal) (hPre_kept_pairs := hPre_kept_pairs)
    ∧ quiescent_ReferenceIdeal (hReferenceIdeal := hReferenceIdeal)
    ∧ quiescent_ReferenceIdeal_pre_kept_pairs (hReferenceIdeal := hReferenceIdeal) (hPre_kept_pairs := hPre_kept_pairs)
    ∧ preserves_Kernel_KernelIdeal
    ∧ algebraic_KernelIdeal_ReferenceIdeal_pre_kept_pairs (hKernelIdeal := hKernelIdeal) (hReferenceIdeal := hReferenceIdeal) (hPre_kept_pairs := hPre_kept_pairs)
-- ==== Pre_kept_pairs.lean ====
abbrev S14x128x2560 : Shape := ⟨3, ![14, 128, 2560]⟩
abbrev S2560x6912 : Shape := ⟨2, ![2560, 6912]⟩
abbrev S6912 : Shape := ⟨1, ![6912]⟩
abbrev S17x640x6912 : Shape := ⟨3, ![17, 640, 6912]⟩
abbrev S17x320x6912 : Shape := ⟨3, ![17, 320, 6912]⟩
abbrev S17x20x6912 : Shape := ⟨3, ![17, 20, 6912]⟩
abbrev S18 : Shape := ⟨1, ![18]⟩
abbrev S_ : Shape := ⟨0, ![]⟩

class Facts : Prop where
  natLt_8_32 : 8 < 32
  bcast_S_S18 : S_.BroadcastsInDim S18 (![] : Fin 0 → Fin S18.rank)
  bcast_S_S17x320x6912 : S_.BroadcastsInDim S17x320x6912 (![] : Fin 0 → Fin S17x320x6912.rank)
  reducesTo_S17x320x6912_S_d0_1_2 : S17x320x6912.ReducesTo [0, 1, 2] S_
  h_S_ : 0 < S_.numel
  reducesTo_S18_S_d0 : S18.ReducesTo [0] S_

variable [Facts]

def fn_part2 {F : FTy → Type} [FloatOps F] (main_v5 : IVec S18 1) (main_v23 : IVec S17x320x6912 1) (main_v25 : IVec S17x320x6912 32) (main_v27 : IVec S17x320x6912 32) (main_v31 : IVec S17x320x6912 32) (main_v33 : IVec S17x320x6912 1) : IVec S_ 1 :=
  let main_c_13 : IVec S_ 32 := constantI S_ 32 0#32
  let main_v34 : IVec S17x320x6912 32 := broadcastInDim S17x320x6912 ![] bcast_S_S17x320x6912 main_c_13
  let main_v35 : IVec S17x320x6912 1 := cmpi .ne main_v31 main_v34
  let main_v36 : IVec S17x320x6912 1 := andi main_v33 main_v35
  let main_v37 : IVec S17x320x6912 1 := cmpi .ne main_v27 main_v31
  let main_v38 : IVec S17x320x6912 1 := andi main_v36 main_v37
  let main_c_14 : IVec S_ 32 := constantI S_ 32 15#32
  let main_v39 : IVec S17x320x6912 32 := broadcastInDim S17x320x6912 ![] bcast_S_S17x320x6912 main_c_14
  let main_v40 : IVec S17x320x6912 32 := andi main_v25 main_v39
  let main_c_15 : IVec S_ 32 := constantI S_ 32 0#32
  let main_v41 : IVec S17x320x6912 32 := broadcastInDim S17x320x6912 ![] bcast_S_S17x320x6912 main_c_15
  let main_v42 : IVec S17x320x6912 1 := cmpi .eq main_v40 main_v41
  let main_v43 : IVec S17x320x6912 1 := ori main_v38 main_v42
  let main_v44 : IVec S17x320x6912 1 := andi main_v23 main_v43
  let main_c_16 : IVec S_ 1 := constantI S_ 1 1#1
  let main_v45 : IVec S_ 1 := (fun x v => Host.reduce IntOp.andi x v reducesTo_S17x320x6912_S_d0_1_2 h_S_) main_v44 main_c_16
  let main_c_17 : IVec S_ 1 := constantI S_ 1 1#1
  let main_v46 : IVec S_ 1 := (fun x v => Host.reduce IntOp.andi x v reducesTo_S18_S_d0 h_S_) main_v5 main_c_17
  let main_v47 : IVec S_ 1 := andi main_v45 main_v46
  main_v47

def fn_part1 {F : FTy → Type} [FloatOps F] (main_v0 : IVec S17x320x6912 32) (main_v5 : IVec S18 1) (main_v7 : IVec S17x320x6912 32) (main_v11 : IVec S17x320x6912 32) (main_v16 : IVec S17x320x6912 1) : IVec S_ 1 :=
  let main_v17 : IVec S17x320x6912 1 := cmpi .ne main_v7 main_v11
  let main_v18 : IVec S17x320x6912 1 := andi main_v16 main_v17
  let main_c_6 : IVec S_ 32 := constantI S_ 32 15#32
  let main_v19 : IVec S17x320x6912 32 := broadcastInDim S17x320x6912 ![] bcast_S_S17x320x6912 main_c_6
  let main_v20 : IVec S17x320x6912 32 := andi main_v0 main_v19
  let main_c_7 : IVec S_ 32 := constantI S_ 32 0#32
  let main_v21 : IVec S17x320x6912 32 := broadcastInDim S17x320x6912 ![] bcast_S_S17x320x6912 main_c_7
  let main_v22 : IVec S17x320x6912 1 := cmpi .eq main_v20 main_v21
  let main_v23 : IVec S17x320x6912 1 := ori main_v18 main_v22
  let main_c_8 : IVec S_ 32 := constantI S_ 32 4#32
  let main_v24 : IVec S17x320x6912 32 := broadcastInDim S17x320x6912 ![] bcast_S_S17x320x6912 main_c_8
  let main_v25 : IVec S17x320x6912 32 := Host.shrsi main_v0 main_v24
  let main_c_9 : IVec S_ 32 := constantI S_ 32 3#32
  let main_v26 : IVec S17x320x6912 32 := broadcastInDim S17x320x6912 ![] bcast_S_S17x320x6912 main_c_9
  let main_v27 : IVec S17x320x6912 32 := andi main_v25 main_v26
  let main_c_10 : IVec S_ 32 := constantI S_ 32 2#32
  let main_v28 : IVec S17x320x6912 32 := broadcastInDim S17x320x6912 ![] bcast_S_S17x320x6912 main_c_10
  let main_v29 : IVec S17x320x6912 32 := Host.shrsi main_v25 main_v28
  let main_c_11 : IVec S_ 32 := constantI S_ 32 3#32
  let main_v30 : IVec S17x320x6912 32 := broadcastInDim S17x320x6912 ![] bcast_S_S17x320x6912 main_c_11
  let main_v31 : IVec S17x320x6912 32 := andi main_v29 main_v30
  let main_c_12 : IVec S_ 32 := constantI S_ 32 3#32
  let main_v32 : IVec S17x320x6912 32 := broadcastInDim S17x320x6912 ![] bcast_S_S17x320x6912 main_c_12
  let main_v33 : IVec S17x320x6912 1 := cmpi .ne main_v27 main_v32
  fn_part2 (F := F) main_v5 main_v23 main_v25 main_v27 main_v31 main_v33

def fn {F : FTy → Type} [FloatOps F] (main_arg0 : FVec F S14x128x2560 .bf16) (main_arg1 : FVec F S2560x6912 .fp8e4m3) (main_arg2 : FVec F S6912 .f32) (main_arg3 : IVec S17x640x6912 8) (main_arg4 : IVec S17x320x6912 8) (main_arg5 : FVec F S17x20x6912 .bf16) (main_arg6 : IVec S18 32) : IVec S_ 1 :=
  let main_v0 : IVec S17x320x6912 32 := (extui 32 · natLt_8_32) main_arg4
  let main_c : IVec S_ 32 := constantI S_ 32 0#32
  let main_v1 : IVec S18 32 := broadcastInDim S18 ![] bcast_S_S18 main_c
  let main_v2 : IVec S18 1 := cmpi .sge main_arg6 main_v1
  let main_c_0 : IVec S_ 32 := constantI S_ 32 1792#32
  let main_v3 : IVec S18 32 := broadcastInDim S18 ![] bcast_S_S18 main_c_0
  let main_v4 : IVec S18 1 := cmpi .sle main_arg6 main_v3
  let main_v5 : IVec S18 1 := andi main_v2 main_v4
  let main_c_1 : IVec S_ 32 := constantI S_ 32 3#32
  let main_v6 : IVec S17x320x6912 32 := broadcastInDim S17x320x6912 ![] bcast_S_S17x320x6912 main_c_1
  let main_v7 : IVec S17x320x6912 32 := andi main_v0 main_v6
  let main_c_2 : IVec S_ 32 := constantI S_ 32 2#32
  let main_v8 : IVec S17x320x6912 32 := broadcastInDim S17x320x6912 ![] bcast_S_S17x320x6912 main_c_2
  let main_v9 : IVec S17x320x6912 32 := Host.shrsi main_v0 main_v8
  let main_c_3 : IVec S_ 32 := constantI S_ 32 3#32
  let main_v10 : IVec S17x320x6912 32 := broadcastInDim S17x320x6912 ![] bcast_S_S17x320x6912 main_c_3
  let main_v11 : IVec S17x320x6912 32 := andi main_v9 main_v10
  let main_c_4 : IVec S_ 32 := constantI S_ 32 3#32
  let main_v12 : IVec S17x320x6912 32 := broadcastInDim S17x320x6912 ![] bcast_S_S17x320x6912 main_c_4
  let main_v13 : IVec S17x320x6912 1 := cmpi .ne main_v7 main_v12
  let main_c_5 : IVec S_ 32 := constantI S_ 32 0#32
  let main_v14 : IVec S17x320x6912 32 := broadcastInDim S17x320x6912 ![] bcast_S_S17x320x6912 main_c_5
  let main_v15 : IVec S17x320x6912 1 := cmpi .ne main_v11 main_v14
  let main_v16 : IVec S17x320x6912 1 := andi main_v13 main_v15
  fn_part1 (F := F) main_v0 main_v5 main_v7 main_v11 main_v16
-- ==== Pre_offsets_in_rows.lean ====
abbrev S14x128x2560 : Shape := ⟨3, ![14, 128, 2560]⟩
abbrev S2560x6912 : Shape := ⟨2, ![2560, 6912]⟩
abbrev S6912 : Shape := ⟨1, ![6912]⟩
abbrev S17x640x6912 : Shape := ⟨3, ![17, 640, 6912]⟩
abbrev S17x320x6912 : Shape := ⟨3, ![17, 320, 6912]⟩
abbrev S17x20x6912 : Shape := ⟨3, ![17, 20, 6912]⟩
abbrev S18 : Shape := ⟨1, ![18]⟩
abbrev S_ : Shape := ⟨0, ![]⟩

class Facts : Prop where
  bcast_S_S18 : S_.BroadcastsInDim S18 (![] : Fin 0 → Fin S18.rank)

variable [Facts]

def fn {F : FTy → Type} [FloatOps F] (main_arg0 : FVec F S14x128x2560 .bf16) (main_arg1 : FVec F S2560x6912 .fp8e4m3) (main_arg2 : FVec F S6912 .f32) (main_arg3 : IVec S17x640x6912 8) (main_arg4 : IVec S17x320x6912 8) (main_arg5 : FVec F S17x20x6912 .bf16) (main_arg6 : IVec S18 32) : IVec S18 1 :=
  let main_c : IVec S_ 32 := constantI S_ 32 0#32
  let main_v0 : IVec S18 32 := broadcastInDim S18 ![] bcast_S_S18 main_c
  let main_v1 : IVec S18 1 := cmpi .sge main_arg6 main_v0
  let main_c_0 : IVec S_ 32 := constantI S_ 32 1792#32
  let main_v2 : IVec S18 32 := broadcastInDim S18 ![] bcast_S_S18 main_c_0
  let main_v3 : IVec S18 1 := cmpi .sle main_arg6 main_v2
  let main_v4 : IVec S18 1 := andi main_v1 main_v3
  main_v4
-- ==== Kernel.lean ====
abbrev S14x128x2560 : Shape := ⟨3, ![14, 128, 2560]⟩
abbrev S2560x6912 : Shape := ⟨2, ![2560, 6912]⟩
abbrev S6912 : Shape := ⟨1, ![6912]⟩
abbrev S17x640x6912 : Shape := ⟨3, ![17, 640, 6912]⟩
abbrev S17x320x6912 : Shape := ⟨3, ![17, 320, 6912]⟩
abbrev S17x20x6912 : Shape := ⟨3, ![17, 20, 6912]⟩
abbrev S18 : Shape := ⟨1, ![18]⟩
abbrev S1792x2560 : Shape := ⟨2, ![1792, 2560]⟩
abbrev S1x6912 : Shape := ⟨2, ![1, 6912]⟩
abbrev S1792x6912 : Shape := ⟨2, ![1792, 6912]⟩
abbrev S2560x256 : Shape := ⟨2, ![2560, 256]⟩
abbrev S1x256 : Shape := ⟨2, ![1, 256]⟩
abbrev S17x640x256 : Shape := ⟨3, ![17, 640, 256]⟩
abbrev S17x320x256 : Shape := ⟨3, ![17, 320, 256]⟩
abbrev S17x20x256 : Shape := ⟨3, ![17, 20, 256]⟩
abbrev S1792x256 : Shape := ⟨2, ![1792, 256]⟩
abbrev S256x256 : Shape := ⟨2, ![256, 256]⟩
abbrev S1 : Shape := ⟨1, ![1]⟩
abbrev S1x64x256 : Shape := ⟨3, ![1, 64, 256]⟩
abbrev S64x256 : Shape := ⟨2, ![64, 256]⟩
abbrev S1x32x256 : Shape := ⟨3, ![1, 32, 256]⟩
abbrev S32x256 : Shape := ⟨2, ![32, 256]⟩
abbrev S1x1x256 : Shape := ⟨3, ![1, 1, 256]⟩
abbrev S8x8x256 : Shape := ⟨3, ![8, 8, 256]⟩
abbrev S16x256 : Shape := ⟨2, ![16, 256]⟩
abbrev S8x256 : Shape := ⟨2, ![8, 256]⟩
abbrev S8x1x256 : Shape := ⟨3, ![8, 1, 256]⟩
abbrev S128x2560 : Shape := ⟨2, ![128, 2560]⟩
abbrev S128x256 : Shape := ⟨2, ![128, 256]⟩
abbrev S128x1 : Shape := ⟨2, ![128, 1]⟩

abbrev nBuf : Space → Nat
  | .hbm => 9
  | .vmem => 16
  | .smem => 1
  | _ => 0

abbrev bufTy : (tb : Table) → Fin (tcTables nBuf tb) → BufTy
  | .hbm, ⟨0, _⟩ => ⟨S14x128x2560, .bf16⟩
  | .hbm, ⟨1, _⟩ => ⟨S2560x6912, .fp8e4m3⟩
  | .hbm, ⟨2, _⟩ => ⟨S6912, .f32⟩
  | .hbm, ⟨3, _⟩ => ⟨S17x640x6912, .i8⟩
  | .hbm, ⟨4, _⟩ => ⟨S17x320x6912, .i8⟩
  | .hbm, ⟨5, _⟩ => ⟨S17x20x6912, .bf16⟩
  | .hbm, ⟨6, _⟩ => ⟨S1792x2560, .bf16⟩
  | .hbm, ⟨7, _⟩ => ⟨S1x6912, .f32⟩
  | .hbm, ⟨8, _⟩ => ⟨S1792x6912, .bf16⟩
  | .local _ .vmem, ⟨0, _⟩ => ⟨S1792x2560, .bf16⟩
  | .local _ .vmem, ⟨1, _⟩ => ⟨S2560x256, .fp8e4m3⟩
  | .local _ .vmem, ⟨2, _⟩ => ⟨S2560x256, .fp8e4m3⟩
  | .local _ .vmem, ⟨3, _⟩ => ⟨S1x256, .f32⟩
  | .local _ .vmem, ⟨4, _⟩ => ⟨S1x256, .f32⟩
  | .local _ .vmem, ⟨5, _⟩ => ⟨S17x640x256, .i8⟩
  | .local _ .vmem, ⟨6, _⟩ => ⟨S17x640x256, .i8⟩
  | .local _ .vmem, ⟨7, _⟩ => ⟨S17x320x256, .i8⟩
  | .local _ .vmem, ⟨8, _⟩ => ⟨S17x320x256, .i8⟩
  | .local _ .vmem, ⟨9, _⟩ => ⟨S17x20x256, .bf16⟩
  | .local _ .vmem, ⟨10, _⟩ => ⟨S17x20x256, .bf16⟩
  | .local _ .vmem, ⟨11, _⟩ => ⟨S1792x256, .bf16⟩
  | .local _ .vmem, ⟨12, _⟩ => ⟨S1792x256, .bf16⟩
  | .local _ .vmem, ⟨13, _⟩ => ⟨S1792x2560, .bf16⟩
  | .local _ .vmem, ⟨14, _⟩ => ⟨S2560x256, .bf16⟩
  | .local _ .vmem, ⟨15, _⟩ => ⟨S1792x256, .f32⟩
  | .local _ .smem, ⟨0, _⟩ => ⟨S18, .i32⟩
  | _, _ => ⟨S14x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![27], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_8 : BitVec 32 := 0#32
  let c17_i32 : BitVec 32 := 17#32
  let v14 : BitVec 32 := Scalar.addi c0_i32_8 c17_i32
  let c1_i32 : BitVec 32 := 1#32
  ⟨c0_i32_8, v14, c1_i32⟩
def k0_off1 (k0_t1 : Fin k0_t1_loop.trips) : Fin 1 → Nat :=
  let c0_i32_8 : BitVec 32 := 0#32
  let c1_i32 : BitVec 32 := 1#32
  let arg12 : BitVec 32 := Scf.iv c0_i32_8 c1_i32 k0_t1
  let v18 : Index := Scalar.indexCast arg12
  ![v18.toNat]
def k0_off2 (k0_t1 : Fin k0_t1_loop.trips) : Fin 1 → Nat :=
  let c0_i32_8 : BitVec 32 := 0#32
  let c1_i32 : BitVec 32 := 1#32
  let arg12 : BitVec 32 := Scf.iv c0_i32_8 c1_i32 k0_t1
  let c1_i32_14 : BitVec 32 := 1#32
  let v20 : BitVec 32 := Scalar.addi arg12 c1_i32_14
  let v21 : Index := Scalar.indexCast v20
  ![v21.toNat]
def k0_off3 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v26 : Index := Scalar.indexCast arg12
  let c0_16 : Index := 0#32
  let c0_17 : Index := 0#32
  ![v26.toNat, 0, 0]
def k0_off4 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v29 : Index := Scalar.indexCast arg12
  let c0_18 : Index := 0#32
  let c0_19 : Index := 0#32
  ![v29.toNat, 0, 0]
def k0_off5 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v32 : Index := Scalar.indexCast arg12
  let c0_20 : Index := 0#32
  let c0_21 : Index := 0#32
  ![v32.toNat, 0, 0]
def k0_off6 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v35 : Index := Scalar.indexCast arg12
  let c1 : Index := 1#32
  let c0_22 : Index := 0#32
  ![v35.toNat, 1, 0]
def k0_off7 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v172 : Index := Scalar.indexCast arg12
  let c64 : Index := 64#32
  let c0_49 : Index := 0#32
  ![v172.toNat, 64, 0]
def k0_off8 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v175 : Index := Scalar.indexCast arg12
  let c32 : Index := 32#32
  let c0_50 : Index := 0#32
  ![v175.toNat, 32, 0]
def k0_off9 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v178 : Index := Scalar.indexCast arg12
  let c2 : Index := 2#32
  let c0_51 : Index := 0#32
  ![v178.toNat, 2, 0]
def k0_off10 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v181 : Index := Scalar.indexCast arg12
  let c3 : Index := 3#32
  let c0_52 : Index := 0#32
  ![v181.toNat, 3, 0]
def k0_off11 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v318 : Index := Scalar.indexCast arg12
  let c128 : Index := 128#32
  let c0_84 : Index := 0#32
  ![v318.toNat, 128, 0]
def k0_off12 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v321 : Index := Scalar.indexCast arg12
  let c64_85 : Index := 64#32
  let c0_86 : Index := 0#32
  ![v321.toNat, 64, 0]
def k0_off13 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v324 : Index := Scalar.indexCast arg12
  let c4 : Index := 4#32
  let c0_87 : Index := 0#32
  ![v324.toNat, 4, 0]
def k0_off14 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v327 : Index := Scalar.indexCast arg12
  let c5 : Index := 5#32
  let c0_88 : Index := 0#32
  ![v327.toNat, 5, 0]
def k0_off15 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v464 : Index := Scalar.indexCast arg12
  let c192 : Index := 192#32
  let c0_120 : Index := 0#32
  ![v464.toNat, 192, 0]
def k0_off16 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v467 : Index := Scalar.indexCast arg12
  let c96 : Index := 96#32
  let c0_121 : Index := 0#32
  ![v467.toNat, 96, 0]
def k0_off17 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v470 : Index := Scalar.indexCast arg12
  let c6 : Index := 6#32
  let c0_122 : Index := 0#32
  ![v470.toNat, 6, 0]
def k0_off18 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v473 : Index := Scalar.indexCast arg12
  let c7 : Index := 7#32
  let c0_123 : Index := 0#32
  ![v473.toNat, 7, 0]
def k0_off19 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v610 : Index := Scalar.indexCast arg12
  let c256_155 : Index := 256#32
  let c0_156 : Index := 0#32
  ![v610.toNat, 256, 0]
def k0_off20 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v613 : Index := Scalar.indexCast arg12
  let c128_157 : Index := 128#32
  let c0_158 : Index := 0#32
  ![v613.toNat, 128, 0]
def k0_off21 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v616 : Index := Scalar.indexCast arg12
  let c8 : Index := 8#32
  let c0_159 : Index := 0#32
  ![v616.toNat, 8, 0]
def k0_off22 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v619 : Index := Scalar.indexCast arg12
  let c9 : Index := 9#32
  let c0_160 : Index := 0#32
  ![v619.toNat, 9, 0]
def k0_off23 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v756 : Index := Scalar.indexCast arg12
  let c320 : Index := 320#32
  let c0_192 : Index := 0#32
  ![v756.toNat, 320, 0]
def k0_off24 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v759 : Index := Scalar.indexCast arg12
  let c160 : Index := 160#32
  let c0_193 : Index := 0#32
  ![v759.toNat, 160, 0]
def k0_off25 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v762 : Index := Scalar.indexCast arg12
  let c10 : Index := 10#32
  let c0_194 : Index := 0#32
  ![v762.toNat, 10, 0]
def k0_off26 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v765 : Index := Scalar.indexCast arg12
  let c11 : Index := 11#32
  let c0_195 : Index := 0#32
  ![v765.toNat, 11, 0]
def k0_off27 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v902 : Index := Scalar.indexCast arg12
  let c384 : Index := 384#32
  let c0_227 : Index := 0#32
  ![v902.toNat, 384, 0]
def k0_off28 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v905 : Index := Scalar.indexCast arg12
  let c192_228 : Index := 192#32
  let c0_229 : Index := 0#32
  ![v905.toNat, 192, 0]
def k0_off29 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v908 : Index := Scalar.indexCast arg12
  let c12 : Index := 12#32
  let c0_230 : Index := 0#32
  ![v908.toNat, 12, 0]
def k0_off30 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v911 : Index := Scalar.indexCast arg12
  let c13 : Index := 13#32
  let c0_231 : Index := 0#32
  ![v911.toNat, 13, 0]
def k0_off31 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1048 : Index := Scalar.indexCast arg12
  let c448 : Index := 448#32
  let c0_263 : Index := 0#32
  ![v1048.toNat, 448, 0]
def k0_off32 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1051 : Index := Scalar.indexCast arg12
  let c224 : Index := 224#32
  let c0_264 : Index := 0#32
  ![v1051.toNat, 224, 0]
def k0_off33 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1054 : Index := Scalar.indexCast arg12
  let c14 : Index := 14#32
  let c0_265 : Index := 0#32
  ![v1054.toNat, 14, 0]
def k0_off34 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1057 : Index := Scalar.indexCast arg12
  let c15 : Index := 15#32
  let c0_266 : Index := 0#32
  ![v1057.toNat, 15, 0]
def k0_off35 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1194 : Index := Scalar.indexCast arg12
  let c512_298 : Index := 512#32
  let c0_299 : Index := 0#32
  ![v1194.toNat, 512, 0]
def k0_off36 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1197 : Index := Scalar.indexCast arg12
  let c256_300 : Index := 256#32
  let c0_301 : Index := 0#32
  ![v1197.toNat, 256, 0]
def k0_off37 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1200 : Index := Scalar.indexCast arg12
  let c16 : Index := 16#32
  let c0_302 : Index := 0#32
  ![v1200.toNat, 16, 0]
def k0_off38 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1203 : Index := Scalar.indexCast arg12
  let c17 : Index := 17#32
  let c0_303 : Index := 0#32
  ![v1203.toNat, 17, 0]
def k0_off39 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1340 : Index := Scalar.indexCast arg12
  let c576 : Index := 576#32
  let c0_335 : Index := 0#32
  ![v1340.toNat, 576, 0]
def k0_off40 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1343 : Index := Scalar.indexCast arg12
  let c288 : Index := 288#32
  let c0_336 : Index := 0#32
  ![v1343.toNat, 288, 0]
def k0_off41 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1346 : Index := Scalar.indexCast arg12
  let c18 : Index := 18#32
  let c0_337 : Index := 0#32
  ![v1346.toNat, 18, 0]
def k0_off42 (k0_t1 : Fin k0_t1_loop.trips) : Fin 3 → Nat :=
  let c0_i32_8 : BitVec 32 := 0#32
  let c1_i32 : BitVec 32 := 1#32
  let arg12 : BitVec 32 := Scf.iv c0_i32_8 c1_i32 k0_t1
  let v1349 : Index := Scalar.indexCast arg12
  let c19 : Index := 19#32
  let c0_338 : Index := 0#32
  ![v1349.toNat, 19, 0]
@[reducible] def k0_t2_loop (v19 : BitVec 32) (v22 : BitVec 32) : Scf.Loop 32 :=
  let c0_i32_378 : BitVec 32 := 0#32
  let c0_i32_370 : BitVec 32 := 0#32
  let v1487 : BitVec 1 := Scalar.cmpi .sgt v19 c0_i32_370
  let v1488 : BitVec 32 := Scalar.extui v1487
  let c0_i32_371 : BitVec 32 := 0#32
  let v1489 : BitVec 1 := Scalar.cmpi .slt v19 c0_i32_371
  let v1490 : BitVec 32 := Scalar.extui v1489
  let v1491 : BitVec 32 := Scalar.subi v1488 v1490
  let c16_i32 : BitVec 32 := 16#32
  let c0_i32_372 : BitVec 32 := 0#32
  let v1492 : BitVec 1 := Scalar.cmpi .sgt c16_i32 c0_i32_372
  let v1493 : BitVec 32 := Scalar.extui v1492
  let c0_i32_373 : BitVec 32 := 0#32
  let v1494 : BitVec 1 := Scalar.cmpi .slt c16_i32 c0_i32_373
  let v1495 : BitVec 32 := Scalar.extui v1494
  let v1496 : BitVec 32 := Scalar.subi v1493 v1495
  let v1497 : BitVec 1 := Scalar.cmpi .ne v1491 v1496
  let v1498 : BitVec 32 := Scalar.remsi v19 c16_i32
  let c0_i32_374 : BitVec 32 := 0#32
  let v1499 : BitVec 1 := Scalar.cmpi .ne v1498 c0_i32_374
  let v1500 : BitVec 1 := Scalar.andi v1497 v1499
  let v1486 : BitVec 32 := Scalar.divsi v19 c16_i32
  let c1_i32_375 : BitVec 32 := 1#32
  let v1501 : BitVec 32 := Scalar.subi v1486 c1_i32_375
  let v1502 : BitVec 32 := Scalar.select v1500 v1501 v1486
  let c16_i32_376 : BitVec 32 := 16#32
  let v1503 : BitVec 32 := Scalar.muli v1502 c16_i32_376
  let v1504 : BitVec 32 := Scalar.subi v22 v1503
  let c127_i32 : BitVec 32 := 127#32
  let v1505 : BitVec 32 := Scalar.addi v1504 c127_i32
  let c128_i32 : BitVec 32 := 128#32
  let v1506 : BitVec 32 := Scalar.divsi v1505 c128_i32
  let v1507 : BitVec 32 := Scalar.subi v1506 c0_i32_378
  let c1_i32_379 : BitVec 32 := 1#32
  let v1509 : BitVec 32 := Scalar.divsi v1507 c1_i32_379
  let v1510 : BitVec 32 := Scalar.muli v1509 c1_i32_379
  let v1511 : BitVec 32 := Scalar.addi c0_i32_378 v1510
  let c1_i32_380 : BitVec 32 := 1#32
  ⟨c0_i32_378, v1511, c1_i32_380⟩
def k0_cond2 (v19 : BitVec 32) (v22 : BitVec 32) : BitVec 1 :=
  let v23 : BitVec 1 := Scalar.cmpi .sgt v22 v19
  let v24 : BitVec 32 := Scalar.extui v23
  let c0_i32_15 : BitVec 32 := 0#32
  let v25 : BitVec 1 := Scalar.cmpi .ne v24 c0_i32_15
  v25

def k0_mult1 (v19 : BitVec 32) (v22 : BitVec 32) (k0_t2 : Fin (k0_t2_loop v19 v22).trips) : BitVec 32 :=
  let c0_i32_370 : BitVec 32 := 0#32
  let v1487 : BitVec 1 := Scalar.cmpi .sgt v19 c0_i32_370
  let v1488 : BitVec 32 := Scalar.extui v1487
  let c0_i32_371 : BitVec 32 := 0#32
  let v1489 : BitVec 1 := Scalar.cmpi .slt v19 c0_i32_371
  let v1490 : BitVec 32 := Scalar.extui v1489
  let v1491 : BitVec 32 := Scalar.subi v1488 v1490
  let c16_i32 : BitVec 32 := 16#32
  let c0_i32_372 : BitVec 32 := 0#32
  let v1492 : BitVec 1 := Scalar.cmpi .sgt c16_i32 c0_i32_372
  let v1493 : BitVec 32 := Scalar.extui v1492
  let c0_i32_373 : BitVec 32 := 0#32
  let v1494 : BitVec 1 := Scalar.cmpi .slt c16_i32 c0_i32_373
  let v1495 : BitVec 32 := Scalar.extui v1494
  let v1496 : BitVec 32 := Scalar.subi v1493 v1495
  let v1497 : BitVec 1 := Scalar.cmpi .ne v1491 v1496
  let v1498 : BitVec 32 := Scalar.remsi v19 c16_i32
  let c0_i32_374 : BitVec 32 := 0#32
  let v1499 : BitVec 1 := Scalar.cmpi .ne v1498 c0_i32_374
  let v1500 : BitVec 1 := Scalar.andi v1497 v1499
  let v1486 : BitVec 32 := Scalar.divsi v19 c16_i32
  let c1_i32_375 : BitVec 32 := 1#32
  let v1501 : BitVec 32 := Scalar.subi v1486 c1_i32_375
  let v1502 : BitVec 32 := Scalar.select v1500 v1501 v1486
  let c16_i32_376 : BitVec 32 := 16#32
  let v1503 : BitVec 32 := Scalar.muli v1502 c16_i32_376
  let c0_i32_378 : BitVec 32 := 0#32
  let c1_i32_380 : BitVec 32 := 1#32
  let arg13 : BitVec 32 := Scf.iv c0_i32_378 c1_i32_380 k0_t2
  let c128_i32_382 : BitVec 32 := 128#32
  let v1512 : BitVec 32 := Scalar.muli arg13 c128_i32_382
  let v1513 : BitVec 32 := Scalar.addi v1503 v1512
  let c1664_i32 : BitVec 32 := 1664#32
  let v1514 : BitVec 32 := Scalar.minsi v1513 c1664_i32
  v1514
def k0_off43 (v19 : BitVec 32) (v22 : BitVec 32) (k0_t2 : Fin (k0_t2_loop v19 v22).trips) : Fin 2 → Nat :=
  let c0_i32_370 : BitVec 32 := 0#32
  let v1487 : BitVec 1 := Scalar.cmpi .sgt v19 c0_i32_370
  let v1488 : BitVec 32 := Scalar.extui v1487
  let c0_i32_371 : BitVec 32 := 0#32
  let v1489 : BitVec 1 := Scalar.cmpi .slt v19 c0_i32_371
  let v1490 : BitVec 32 := Scalar.extui v1489
  let v1491 : BitVec 32 := Scalar.subi v1488 v1490
  let c16_i32 : BitVec 32 := 16#32
  let c0_i32_372 : BitVec 32 := 0#32
  let v1492 : BitVec 1 := Scalar.cmpi .sgt c16_i32 c0_i32_372
  let v1493 : BitVec 32 := Scalar.extui v1492
  let c0_i32_373 : BitVec 32 := 0#32
  let v1494 : BitVec 1 := Scalar.cmpi .slt c16_i32 c0_i32_373
  let v1495 : BitVec 32 := Scalar.extui v1494
  let v1496 : BitVec 32 := Scalar.subi v1493 v1495
  let v1497 : BitVec 1 := Scalar.cmpi .ne v1491 v1496
  let v1498 : BitVec 32 := Scalar.remsi v19 c16_i32
  let c0_i32_374 : BitVec 32 := 0#32
  let v1499 : BitVec 1 := Scalar.cmpi .ne v1498 c0_i32_374
  let v1500 : BitVec 1 := Scalar.andi v1497 v1499
  let v1486 : BitVec 32 := Scalar.divsi v19 c16_i32
  let c1_i32_375 : BitVec 32 := 1#32
  let v1501 : BitVec 32 := Scalar.subi v1486 c1_i32_375
  let v1502 : BitVec 32 := Scalar.select v1500 v1501 v1486
  let c16_i32_376 : BitVec 32 := 16#32
  let v1503 : BitVec 32 := Scalar.muli v1502 c16_i32_376
  let c0_i32_378 : BitVec 32 := 0#32
  let c1_i32_380 : BitVec 32 := 1#32
  let arg13 : BitVec 32 := Scf.iv c0_i32_378 c1_i32_380 k0_t2
  let c128_i32_382 : BitVec 32 := 128#32
  let v1512 : BitVec 32 := Scalar.muli arg13 c128_i32_382
  let v1513 : BitVec 32 := Scalar.addi v1503 v1512
  let c1664_i32 : BitVec 32 := 1664#32
  let v1514 : BitVec 32 := Scalar.minsi v1513 c1664_i32
  let v1515 : BitVec 32 := v1514
  let v1519 : Index := Scalar.indexCast v1515
  let c0_384 : Index := 0#32
  ![v1519.toNat, 0]
def k0_off44 (v19 : BitVec 32) (v22 : BitVec 32) (k0_t2 : Fin (k0_t2_loop v19 v22).trips) : Fin 2 → Nat :=
  let c0_i32_370 : BitVec 32 := 0#32
  let v1487 : BitVec 1 := Scalar.cmpi .sgt v19 c0_i32_370
  let v1488 : BitVec 32 := Scalar.extui v1487
  let c0_i32_371 : BitVec 32 := 0#32
  let v1489 : BitVec 1 := Scalar.cmpi .slt v19 c0_i32_371
  let v1490 : BitVec 32 := Scalar.extui v1489
  let v1491 : BitVec 32 := Scalar.subi v1488 v1490
  let c16_i32 : BitVec 32 := 16#32
  let c0_i32_372 : BitVec 32 := 0#32
  let v1492 : BitVec 1 := Scalar.cmpi .sgt c16_i32 c0_i32_372
  let v1493 : BitVec 32 := Scalar.extui v1492
  let c0_i32_373 : BitVec 32 := 0#32
  let v1494 : BitVec 1 := Scalar.cmpi .slt c16_i32 c0_i32_373
  let v1495 : BitVec 32 := Scalar.extui v1494
  let v1496 : BitVec 32 := Scalar.subi v1493 v1495
  let v1497 : BitVec 1 := Scalar.cmpi .ne v1491 v1496
  let v1498 : BitVec 32 := Scalar.remsi v19 c16_i32
  let c0_i32_374 : BitVec 32 := 0#32
  let v1499 : BitVec 1 := Scalar.cmpi .ne v1498 c0_i32_374
  let v1500 : BitVec 1 := Scalar.andi v1497 v1499
  let v1486 : BitVec 32 := Scalar.divsi v19 c16_i32
  let c1_i32_375 : BitVec 32 := 1#32
  let v1501 : BitVec 32 := Scalar.subi v1486 c1_i32_375
  let v1502 : BitVec 32 := Scalar.select v1500 v1501 v1486
  let c16_i32_376 : BitVec 32 := 16#32
  let v1503 : BitVec 32 := Scalar.muli v1502 c16_i32_376
  let c0_i32_378 : BitVec 32 := 0#32
  let c1_i32_380 : BitVec 32 := 1#32
  let arg13 : BitVec 32 := Scf.iv c0_i32_378 c1_i32_380 k0_t2
  let c128_i32_382 : BitVec 32 := 128#32
  let v1512 : BitVec 32 := Scalar.muli arg13 c128_i32_382
  let v1513 : BitVec 32 := Scalar.addi v1503 v1512
  let c1664_i32 : BitVec 32 := 1664#32
  let v1514 : BitVec 32 := Scalar.minsi v1513 c1664_i32
  let v1515 : BitVec 32 := v1514
  let v1531 : Index := Scalar.indexCast v1515
  let c0_388 : Index := 0#32
  ![v1531.toNat, 0]
@[reducible] def k0_t3_loop (v19 : BitVec 32) (v22 : BitVec 32) : Scf.Loop 32 :=
  let c0_i32_378 : BitVec 32 := 0#32
  let c0_i32_370 : BitVec 32 := 0#32
  let v1487 : BitVec 1 := Scalar.cmpi .sgt v19 c0_i32_370
  let v1488 : BitVec 32 := Scalar.extui v1487
  let c0_i32_371 : BitVec 32 := 0#32
  let v1489 : BitVec 1 := Scalar.cmpi .slt v19 c0_i32_371
  let v1490 : BitVec 32 := Scalar.extui v1489
  let v1491 : BitVec 32 := Scalar.subi v1488 v1490
  let c16_i32 : BitVec 32 := 16#32
  let c0_i32_372 : BitVec 32 := 0#32
  let v1492 : BitVec 1 := Scalar.cmpi .sgt c16_i32 c0_i32_372
  let v1493 : BitVec 32 := Scalar.extui v1492
  let c0_i32_373 : BitVec 32 := 0#32
  let v1494 : BitVec 1 := Scalar.cmpi .slt c16_i32 c0_i32_373
  let v1495 : BitVec 32 := Scalar.extui v1494
  let v1496 : BitVec 32 := Scalar.subi v1493 v1495
  let v1497 : BitVec 1 := Scalar.cmpi .ne v1491 v1496
  let v1498 : BitVec 32 := Scalar.remsi v19 c16_i32
  let c0_i32_374 : BitVec 32 := 0#32
  let v1499 : BitVec 1 := Scalar.cmpi .ne v1498 c0_i32_374
  let v1500 : BitVec 1 := Scalar.andi v1497 v1499
  let v1486 : BitVec 32 := Scalar.divsi v19 c16_i32
  let c1_i32_375 : BitVec 32 := 1#32
  let v1501 : BitVec 32 := Scalar.subi v1486 c1_i32_375
  let v1502 : BitVec 32 := Scalar.select v1500 v1501 v1486
  let c16_i32_376 : BitVec 32 := 16#32
  let v1503 : BitVec 32 := Scalar.muli v1502 c16_i32_376
  let v1504 : BitVec 32 := Scalar.subi v22 v1503
  let c127_i32 : BitVec 32 := 127#32
  let v1505 : BitVec 32 := Scalar.addi v1504 c127_i32
  let c128_i32 : BitVec 32 := 128#32
  let v1506 : BitVec 32 := Scalar.divsi v1505 c128_i32
  let v1507 : BitVec 32 := Scalar.subi v1506 c0_i32_378
  let c1_i32_379 : BitVec 32 := 1#32
  let v1509 : BitVec 32 := Scalar.divsi v1507 c1_i32_379
  let v1510 : BitVec 32 := Scalar.muli v1509 c1_i32_379
  let v1511 : BitVec 32 := Scalar.addi c0_i32_378 v1510
  let v1508 : BitVec 32 := Scalar.addi c0_i32_378 v1507
  let c1_i32_381 : BitVec 32 := 1#32
  ⟨v1511, v1508, c1_i32_381⟩
def k0_mult2 (v19 : BitVec 32) (v22 : BitVec 32) (k0_t3 : Fin (k0_t3_loop v19 v22).trips) : BitVec 32 :=
  let c0_i32_370 : BitVec 32 := 0#32
  let v1487 : BitVec 1 := Scalar.cmpi .sgt v19 c0_i32_370
  let v1488 : BitVec 32 := Scalar.extui v1487
  let c0_i32_371 : BitVec 32 := 0#32
  let v1489 : BitVec 1 := Scalar.cmpi .slt v19 c0_i32_371
  let v1490 : BitVec 32 := Scalar.extui v1489
  let v1491 : BitVec 32 := Scalar.subi v1488 v1490
  let c16_i32 : BitVec 32 := 16#32
  let c0_i32_372 : BitVec 32 := 0#32
  let v1492 : BitVec 1 := Scalar.cmpi .sgt c16_i32 c0_i32_372
  let v1493 : BitVec 32 := Scalar.extui v1492
  let c0_i32_373 : BitVec 32 := 0#32
  let v1494 : BitVec 1 := Scalar.cmpi .slt c16_i32 c0_i32_373
  let v1495 : BitVec 32 := Scalar.extui v1494
  let v1496 : BitVec 32 := Scalar.subi v1493 v1495
  let v1497 : BitVec 1 := Scalar.cmpi .ne v1491 v1496
  let v1498 : BitVec 32 := Scalar.remsi v19 c16_i32
  let c0_i32_374 : BitVec 32 := 0#32
  let v1499 : BitVec 1 := Scalar.cmpi .ne v1498 c0_i32_374
  let v1500 : BitVec 1 := Scalar.andi v1497 v1499
  let v1486 : BitVec 32 := Scalar.divsi v19 c16_i32
  let c1_i32_375 : BitVec 32 := 1#32
  let v1501 : BitVec 32 := Scalar.subi v1486 c1_i32_375
  let v1502 : BitVec 32 := Scalar.select v1500 v1501 v1486
  let c16_i32_376 : BitVec 32 := 16#32
  let v1503 : BitVec 32 := Scalar.muli v1502 c16_i32_376
  let c0_i32_378 : BitVec 32 := 0#32
  let v1504 : BitVec 32 := Scalar.subi v22 v1503
  let c127_i32 : BitVec 32 := 127#32
  let v1505 : BitVec 32 := Scalar.addi v1504 c127_i32
  let c128_i32 : BitVec 32 := 128#32
  let v1506 : BitVec 32 := Scalar.divsi v1505 c128_i32
  let v1507 : BitVec 32 := Scalar.subi v1506 c0_i32_378
  let c1_i32_379 : BitVec 32 := 1#32
  let v1509 : BitVec 32 := Scalar.divsi v1507 c1_i32_379
  let v1510 : BitVec 32 := Scalar.muli v1509 c1_i32_379
  let v1511 : BitVec 32 := Scalar.addi c0_i32_378 v1510
  let c1_i32_381 : BitVec 32 := 1#32
  let arg13 : BitVec 32 := Scf.iv v1511 c1_i32_381 k0_t3
  let c128_i32_382 : BitVec 32 := 128#32
  let v1512 : BitVec 32 := Scalar.muli arg13 c128_i32_382
  let v1513 : BitVec 32 := Scalar.addi v1503 v1512
  let c1664_i32 : BitVec 32 := 1664#32
  let v1514 : BitVec 32 := Scalar.minsi v1513 c1664_i32
  v1514
def k0_off45 (v19 : BitVec 32) (v22 : BitVec 32) (k0_t3 : Fin (k0_t3_loop v19 v22).trips) : Fin 2 → Nat :=
  let c0_i32_370 : BitVec 32 := 0#32
  let v1487 : BitVec 1 := Scalar.cmpi .sgt v19 c0_i32_370
  let v1488 : BitVec 32 := Scalar.extui v1487
  let c0_i32_371 : BitVec 32 := 0#32
  let v1489 : BitVec 1 := Scalar.cmpi .slt v19 c0_i32_371
  let v1490 : BitVec 32 := Scalar.extui v1489
  let v1491 : BitVec 32 := Scalar.subi v1488 v1490
  let c16_i32 : BitVec 32 := 16#32
  let c0_i32_372 : BitVec 32 := 0#32
  let v1492 : BitVec 1 := Scalar.cmpi .sgt c16_i32 c0_i32_372
  let v1493 : BitVec 32 := Scalar.extui v1492
  let c0_i32_373 : BitVec 32 := 0#32
  let v1494 : BitVec 1 := Scalar.cmpi .slt c16_i32 c0_i32_373
  let v1495 : BitVec 32 := Scalar.extui v1494
  let v1496 : BitVec 32 := Scalar.subi v1493 v1495
  let v1497 : BitVec 1 := Scalar.cmpi .ne v1491 v1496
  let v1498 : BitVec 32 := Scalar.remsi v19 c16_i32
  let c0_i32_374 : BitVec 32 := 0#32
  let v1499 : BitVec 1 := Scalar.cmpi .ne v1498 c0_i32_374
  let v1500 : BitVec 1 := Scalar.andi v1497 v1499
  let v1486 : BitVec 32 := Scalar.divsi v19 c16_i32
  let c1_i32_375 : BitVec 32 := 1#32
  let v1501 : BitVec 32 := Scalar.subi v1486 c1_i32_375
  let v1502 : BitVec 32 := Scalar.select v1500 v1501 v1486
  let c16_i32_376 : BitVec 32 := 16#32
  let v1503 : BitVec 32 := Scalar.muli v1502 c16_i32_376
  let c0_i32_378 : BitVec 32 := 0#32
  let v1504 : BitVec 32 := Scalar.subi v22 v1503
  let c127_i32 : BitVec 32 := 127#32
  let v1505 : BitVec 32 := Scalar.addi v1504 c127_i32
  let c128_i32 : BitVec 32 := 128#32
  let v1506 : BitVec 32 := Scalar.divsi v1505 c128_i32
  let v1507 : BitVec 32 := Scalar.subi v1506 c0_i32_378
  let c1_i32_379 : BitVec 32 := 1#32
  let v1509 : BitVec 32 := Scalar.divsi v1507 c1_i32_379
  let v1510 : BitVec 32 := Scalar.muli v1509 c1_i32_379
  let v1511 : BitVec 32 := Scalar.addi c0_i32_378 v1510
  let c1_i32_381 : BitVec 32 := 1#32
  let arg13 : BitVec 32 := Scf.iv v1511 c1_i32_381 k0_t3
  let c128_i32_382 : BitVec 32 := 128#32
  let v1512 : BitVec 32 := Scalar.muli arg13 c128_i32_382
  let v1513 : BitVec 32 := Scalar.addi v1503 v1512
  let c1664_i32 : BitVec 32 := 1664#32
  let v1514 : BitVec 32 := Scalar.minsi v1513 c1664_i32
  let v1515 : BitVec 32 := v1514
  let v1519 : Index := Scalar.indexCast v1515
  let c0_384 : Index := 0#32
  ![v1519.toNat, 0]
def k0_off46 (v19 : BitVec 32) (v22 : BitVec 32) (k0_t3 : Fin (k0_t3_loop v19 v22).trips) : Fin 2 → Nat :=
  let c0_i32_370 : BitVec 32 := 0#32
  let v1487 : BitVec 1 := Scalar.cmpi .sgt v19 c0_i32_370
  let v1488 : BitVec 32 := Scalar.extui v1487
  let c0_i32_371 : BitVec 32 := 0#32
  let v1489 : BitVec 1 := Scalar.cmpi .slt v19 c0_i32_371
  let v1490 : BitVec 32 := Scalar.extui v1489
  let v1491 : BitVec 32 := Scalar.subi v1488 v1490
  let c16_i32 : BitVec 32 := 16#32
  let c0_i32_372 : BitVec 32 := 0#32
  let v1492 : BitVec 1 := Scalar.cmpi .sgt c16_i32 c0_i32_372
  let v1493 : BitVec 32 := Scalar.extui v1492
  let c0_i32_373 : BitVec 32 := 0#32
  let v1494 : BitVec 1 := Scalar.cmpi .slt c16_i32 c0_i32_373
  let v1495 : BitVec 32 := Scalar.extui v1494
  let v1496 : BitVec 32 := Scalar.subi v1493 v1495
  let v1497 : BitVec 1 := Scalar.cmpi .ne v1491 v1496
  let v1498 : BitVec 32 := Scalar.remsi v19 c16_i32
  let c0_i32_374 : BitVec 32 := 0#32
  let v1499 : BitVec 1 := Scalar.cmpi .ne v1498 c0_i32_374
  let v1500 : BitVec 1 := Scalar.andi v1497 v1499
  let v1486 : BitVec 32 := Scalar.divsi v19 c16_i32
  let c1_i32_375 : BitVec 32 := 1#32
  let v1501 : BitVec 32 := Scalar.subi v1486 c1_i32_375
  let v1502 : BitVec 32 := Scalar.select v1500 v1501 v1486
  let c16_i32_376 : BitVec 32 := 16#32
  let v1503 : BitVec 32 := Scalar.muli v1502 c16_i32_376
  let c0_i32_378 : BitVec 32 := 0#32
  let v1504 : BitVec 32 := Scalar.subi v22 v1503
  let c127_i32 : BitVec 32 := 127#32
  let v1505 : BitVec 32 := Scalar.addi v1504 c127_i32
  let c128_i32 : BitVec 32 := 128#32
  let v1506 : BitVec 32 := Scalar.divsi v1505 c128_i32
  let v1507 : BitVec 32 := Scalar.subi v1506 c0_i32_378
  let c1_i32_379 : BitVec 32 := 1#32
  let v1509 : BitVec 32 := Scalar.divsi v1507 c1_i32_379
  let v1510 : BitVec 32 := Scalar.muli v1509 c1_i32_379
  let v1511 : BitVec 32 := Scalar.addi c0_i32_378 v1510
  let c1_i32_381 : BitVec 32 := 1#32
  let arg13 : BitVec 32 := Scf.iv v1511 c1_i32_381 k0_t3
  let c128_i32_382 : BitVec 32 := 128#32
  let v1512 : BitVec 32 := Scalar.muli arg13 c128_i32_382
  let v1513 : BitVec 32 := Scalar.addi v1503 v1512
  let c1664_i32 : BitVec 32 := 1664#32
  let v1514 : BitVec 32 := Scalar.minsi v1513 c1664_i32
  let v1515 : BitVec 32 := v1514
  let v1531 : Index := Scalar.indexCast v1515
  let c0_388 : Index := 0#32
  ![v1531.toNat, 0]

def k0_chk1 (v19 : BitVec 32) (v22 : BitVec 32) : Prop :=
  (∀ (k0_h2 : k0_cond2 v19 v22 = 1#1), (k0_t2_loop v19 v22).OK) ∧
  (∀ k0_t2 : Fin (k0_t2_loop v19 v22).trips, ∀ (k0_h2 : k0_cond2 v19 v22 = 1#1), 16 ∣ (k0_mult1 v19 v22 k0_t2).toNat) ∧
  (∀ k0_t2 : Fin (k0_t2_loop v19 v22).trips, ∀ (k0_h2 : k0_cond2 v19 v22 = 1#1), ∀ a, (k0_off43 v19 v22 k0_t2) a + S128x2560.size a ≤ S1792x2560.size a) ∧
  (∀ k0_t2 : Fin (k0_t2_loop v19 v22).trips, ∀ (k0_h2 : k0_cond2 v19 v22 = 1#1), ∀ a, (k0_off44 v19 v22 k0_t2) a + S128x256.size a ≤ S1792x256.size a) ∧
  (∀ (k0_h2 : k0_cond2 v19 v22 = 1#1), (k0_t3_loop v19 v22).OK) ∧
  (∀ k0_t3 : Fin (k0_t3_loop v19 v22).trips, ∀ (k0_h2 : k0_cond2 v19 v22 = 1#1), 16 ∣ (k0_mult2 v19 v22 k0_t3).toNat) ∧
  (∀ k0_t3 : Fin (k0_t3_loop v19 v22).trips, ∀ (k0_h2 : k0_cond2 v19 v22 = 1#1), ∀ a, (k0_off45 v19 v22 k0_t3) a + S128x2560.size a ≤ S1792x2560.size a) ∧
  (∀ k0_t3 : Fin (k0_t3_loop v19 v22).trips, ∀ (k0_h2 : k0_cond2 v19 v22 = 1#1), ∀ a, (k0_off46 v19 v22 k0_t3) a + S128x256.size a ≤ S1792x256.size a)
theorem k0_t2_ok : ∀ (v19 : BitVec 32) (v22 : BitVec 32) (k0_hw1 : k0_chk1 v19 v22), ∀ (k0_h2 : k0_cond2 v19 v22 = 1#1), (k0_t2_loop v19 v22).OK := fun v19 v22 k0_hw1 k0_h2 => k0_hw1.1 k0_h2
theorem k0_mult1_dvd : ∀ (v19 : BitVec 32) (v22 : BitVec 32) (k0_hw1 : k0_chk1 v19 v22) (k0_t2 : Fin (k0_t2_loop v19 v22).trips), ∀ (k0_h2 : k0_cond2 v19 v22 = 1#1), 16 ∣ (k0_mult1 v19 v22 k0_t2).toNat := fun v19 v22 k0_hw1 k0_t2 k0_h2 => k0_hw1.2.1 k0_t2 k0_h2
theorem k0_off43_inb : ∀ (v19 : BitVec 32) (v22 : BitVec 32) (k0_hw1 : k0_chk1 v19 v22) (k0_t2 : Fin (k0_t2_loop v19 v22).trips), ∀ (k0_h2 : k0_cond2 v19 v22 = 1#1), ∀ a, (k0_off43 v19 v22 k0_t2) a + S128x2560.size a ≤ S1792x2560.size a := fun v19 v22 k0_hw1 k0_t2 k0_h2 => k0_hw1.2.2.1 k0_t2 k0_h2
theorem k0_off44_inb : ∀ (v19 : BitVec 32) (v22 : BitVec 32) (k0_hw1 : k0_chk1 v19 v22) (k0_t2 : Fin (k0_t2_loop v19 v22).trips), ∀ (k0_h2 : k0_cond2 v19 v22 = 1#1), ∀ a, (k0_off44 v19 v22 k0_t2) a + S128x256.size a ≤ S1792x256.size a := fun v19 v22 k0_hw1 k0_t2 k0_h2 => k0_hw1.2.2.2.1 k0_t2 k0_h2
theorem k0_t3_ok : ∀ (v19 : BitVec 32) (v22 : BitVec 32) (k0_hw1 : k0_chk1 v19 v22), ∀ (k0_h2 : k0_cond2 v19 v22 = 1#1), (k0_t3_loop v19 v22).OK := fun v19 v22 k0_hw1 k0_h2 => k0_hw1.2.2.2.2.1 k0_h2
theorem k0_mult2_dvd : ∀ (v19 : BitVec 32) (v22 : BitVec 32) (k0_hw1 : k0_chk1 v19 v22) (k0_t3 : Fin (k0_t3_loop v19 v22).trips), ∀ (k0_h2 : k0_cond2 v19 v22 = 1#1), 16 ∣ (k0_mult2 v19 v22 k0_t3).toNat := fun v19 v22 k0_hw1 k0_t3 k0_h2 => k0_hw1.2.2.2.2.2.1 k0_t3 k0_h2
theorem k0_off45_inb : ∀ (v19 : BitVec 32) (v22 : BitVec 32) (k0_hw1 : k0_chk1 v19 v22) (k0_t3 : Fin (k0_t3_loop v19 v22).trips), ∀ (k0_h2 : k0_cond2 v19 v22 = 1#1), ∀ a, (k0_off45 v19 v22 k0_t3) a + S128x2560.size a ≤ S1792x2560.size a := fun v19 v22 k0_hw1 k0_t3 k0_h2 => k0_hw1.2.2.2.2.2.2.1 k0_t3 k0_h2
theorem k0_off46_inb : ∀ (v19 : BitVec 32) (v22 : BitVec 32) (k0_hw1 : k0_chk1 v19 v22) (k0_t3 : Fin (k0_t3_loop v19 v22).trips), ∀ (k0_h2 : k0_cond2 v19 v22 = 1#1), ∀ a, (k0_off46 v19 v22 k0_t3) a + S128x256.size a ≤ S1792x256.size a := fun v19 v22 k0_hw1 k0_t3 k0_h2 => k0_hw1.2.2.2.2.2.2.2 k0_t3 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1792x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S17x640x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S17x320x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S17x20x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S14x128x2560 : Shape := ⟨3, ![14, 128, 2560]⟩
abbrev S2560x6912 : Shape := ⟨2, ![2560, 6912]⟩
abbrev S6912 : Shape := ⟨1, ![6912]⟩
abbrev S17x640x6912 : Shape := ⟨3, ![17, 640, 6912]⟩
abbrev S17x320x6912 : Shape := ⟨3, ![17, 320, 6912]⟩
abbrev S17x20x6912 : Shape := ⟨3, ![17, 20, 6912]⟩
abbrev S18 : Shape := ⟨1, ![18]⟩
abbrev S1792x2560 : Shape := ⟨2, ![1792, 2560]⟩
abbrev S1792x6912 : Shape := ⟨2, ![1792, 6912]⟩
abbrev S1x6912 : Shape := ⟨2, ![1, 6912]⟩
abbrev S_ : Shape := ⟨0, ![]⟩
abbrev S17x20x32x1x6912 : Shape := ⟨5, ![17, 20, 32, 1, 6912]⟩
abbrev S17x320x1x6912 : Shape := ⟨4, ![17, 320, 1, 6912]⟩
abbrev S17x320x2x6912 : Shape := ⟨4, ![17, 320, 2, 6912]⟩
abbrev S4 : Shape := ⟨1, ![4]⟩
abbrev S4x1 : Shape := ⟨2, ![4, 1]⟩
abbrev S1x1x1x4x1 : Shape := ⟨5, ![1, 1, 1, 4, 1]⟩
abbrev S17x20x32x4x6912 : Shape := ⟨5, ![17, 20, 32, 4, 6912]⟩
abbrev S17x20x1x1x6912 : Shape := ⟨5, ![17, 20, 1, 1, 6912]⟩
abbrev S17x2560x6912 : Shape := ⟨3, ![17, 2560, 6912]⟩
abbrev S1792 : Shape := ⟨1, ![1792]⟩
abbrev S1x1792 : Shape := ⟨2, ![1, 1792]⟩
abbrev S17 : Shape := ⟨1, ![17]⟩
abbrev S17x1 : Shape := ⟨2, ![17, 1]⟩
abbrev S17x1792 : Shape := ⟨2, ![17, 1792]⟩
abbrev S17x6912x1792 : Shape := ⟨3, ![17, 6912, 1792]⟩
abbrev S17x1792x6912 : Shape := ⟨3, ![17, 1792, 6912]⟩
abbrev S17x1792x1 : Shape := ⟨3, ![17, 1792, 1]⟩

abbrev nBuf : Space → Nat
  | .hbm => 113
  | .vmem => 2
  | .smem => 0
  | _ => 0

abbrev bufTy : (tb : Table) → Fin (tcTables nBuf tb) → BufTy
  | .hbm, ⟨0, _⟩ => ⟨S14x128x2560, .bf16⟩
  | .hbm, ⟨1, _⟩ => ⟨S2560x6912, .fp8e4m3⟩
  | .hbm, ⟨2, _⟩ => ⟨S6912, .f32⟩
  | .hbm, ⟨3, _⟩ => ⟨S17x640x6912, .i8⟩
  | .hbm, ⟨4, _⟩ => ⟨S17x320x6912, .i8⟩
  | .hbm, ⟨5, _⟩ => ⟨S17x20x6912, .bf16⟩
  | .hbm, ⟨6, _⟩ => ⟨S18, .i32⟩
  | .hbm, ⟨7, _⟩ => ⟨S2560x6912, .bf16⟩
  | .hbm, ⟨8, _⟩ => ⟨S1792x2560, .bf16⟩
  | .hbm, ⟨9, _⟩ => ⟨S1792x6912, .f32⟩
  | .hbm, ⟨10, _⟩ => ⟨S1x6912, .f32⟩
  | .hbm, ⟨11, _⟩ => ⟨S1792x6912, .f32⟩
  | .hbm, ⟨12, _⟩ => ⟨S1792x6912, .f32⟩
  | .hbm, ⟨13, _⟩ => ⟨S17x640x6912, .i32⟩
  | .hbm, ⟨14, _⟩ => ⟨S17x320x6912, .i32⟩
  | .hbm, ⟨15, _⟩ => ⟨S_, .i32⟩
  | .hbm, ⟨16, _⟩ => ⟨S17x640x6912, .i32⟩
  | .hbm, ⟨17, _⟩ => ⟨S17x640x6912, .i32⟩
  | .hbm, ⟨18, _⟩ => ⟨S_, .i32⟩
  | .hbm, ⟨19, _⟩ => ⟨S17x640x6912, .i32⟩
  | .hbm, ⟨20, _⟩ => ⟨S17x640x6912, .i1⟩
  | .hbm, ⟨21, _⟩ => ⟨S_, .i32⟩
  | .hbm, ⟨22, _⟩ => ⟨S17x640x6912, .i32⟩
  | .hbm, ⟨23, _⟩ => ⟨S17x640x6912, .i32⟩
  | .hbm, ⟨24, _⟩ => ⟨S17x640x6912, .i32⟩
  | .hbm, ⟨25, _⟩ => ⟨S17x640x6912, .bf16⟩
  | .hbm, ⟨26, _⟩ => ⟨S17x20x32x1x6912, .bf16⟩
  | .hbm, ⟨27, _⟩ => ⟨S_, .i32⟩
  | .hbm, ⟨28, _⟩ => ⟨S17x640x6912, .i32⟩
  | .hbm, ⟨29, _⟩ => ⟨S17x640x6912, .i32⟩
  | .hbm, ⟨30, _⟩ => ⟨S_, .i32⟩
  | .hbm, ⟨31, _⟩ => ⟨S17x640x6912, .i32⟩
  | .hbm, ⟨32, _⟩ => ⟨S17x640x6912, .i1⟩
  | .hbm, ⟨33, _⟩ => ⟨S_, .i32⟩
  | .hbm, ⟨34, _⟩ => ⟨S17x640x6912, .i32⟩
  | .hbm, ⟨35, _⟩ => ⟨S17x640x6912, .i32⟩
  | .hbm, ⟨36, _⟩ => ⟨S17x640x6912, .i32⟩
  | .hbm, ⟨37, _⟩ => ⟨S17x640x6912, .bf16⟩
  | .hbm, ⟨38, _⟩ => ⟨S17x20x32x1x6912, .bf16⟩
  | .hbm, ⟨39, _⟩ => ⟨S_, .i32⟩
  | .hbm, ⟨40, _⟩ => ⟨S17x320x6912, .i32⟩
  | .hbm, ⟨41, _⟩ => ⟨S17x320x6912, .i32⟩
  | .hbm, ⟨42, _⟩ => ⟨S_, .i32⟩
  | .hbm, ⟨43, _⟩ => ⟨S17x320x6912, .i32⟩
  | .hbm, ⟨44, _⟩ => ⟨S17x320x6912, .i32⟩
  | .hbm, ⟨45, _⟩ => ⟨S_, .i32⟩
  | .hbm, ⟨46, _⟩ => ⟨S17x320x6912, .i32⟩
  | .hbm, ⟨47, _⟩ => ⟨S17x320x6912, .i32⟩
  | .hbm, ⟨48, _⟩ => ⟨S17x320x1x6912, .i32⟩
  | .hbm, ⟨49, _⟩ => ⟨S17x320x1x6912, .i32⟩
  | .hbm, ⟨50, _⟩ => ⟨S17x320x2x6912, .i32⟩
  | .hbm, ⟨51, _⟩ => ⟨S17x20x32x1x6912, .i32⟩
  | .hbm, ⟨52, _⟩ => ⟨S_, .i32⟩
  | .hbm, ⟨53, _⟩ => ⟨S17x320x6912, .i32⟩
  | .hbm, ⟨54, _⟩ => ⟨S17x320x6912, .i32⟩
  | .hbm, ⟨55, _⟩ => ⟨S_, .i32⟩
  | .hbm, ⟨56, _⟩ => ⟨S17x320x6912, .i32⟩
  | .hbm, ⟨57, _⟩ => ⟨S17x320x6912, .i32⟩
  | .hbm, ⟨58, _⟩ => ⟨S_, .i32⟩
  | .hbm, ⟨59, _⟩ => ⟨S17x320x6912, .i32⟩
  | .hbm, ⟨60, _⟩ => ⟨S17x320x6912, .i32⟩
  | .hbm, ⟨61, _⟩ => ⟨S_, .i32⟩
  | .hbm, ⟨62, _⟩ => ⟨S17x320x6912, .i32⟩
  | .hbm, ⟨63, _⟩ => ⟨S17x320x6912, .i32⟩
  | .hbm, ⟨64, _⟩ => ⟨S17x320x1x6912, .i32⟩
  | .hbm, ⟨65, _⟩ => ⟨S17x320x1x6912, .i32⟩
  | .hbm, ⟨66, _⟩ => ⟨S17x320x2x6912, .i32⟩
  | .hbm, ⟨67, _⟩ => ⟨S17x20x32x1x6912, .i32⟩
  | .hbm, ⟨68, _⟩ => ⟨S4, .i32⟩
  | .hbm, ⟨69, _⟩ => ⟨S4x1, .i32⟩
  | .hbm, ⟨70, _⟩ => ⟨S1x1x1x4x1, .i32⟩
  | .hbm, ⟨71, _⟩ => ⟨S17x20x32x4x6912, .i32⟩
  | .hbm, ⟨72, _⟩ => ⟨S17x20x32x4x6912, .i32⟩
  | .hbm, ⟨73, _⟩ => ⟨S17x20x32x4x6912, .i1⟩
  | .hbm, ⟨74, _⟩ => ⟨S1x1x1x4x1, .i32⟩
  | .hbm, ⟨75, _⟩ => ⟨S17x20x32x4x6912, .i32⟩
  | .hbm, ⟨76, _⟩ => ⟨S17x20x32x4x6912, .i32⟩
  | .hbm, ⟨77, _⟩ => ⟨S17x20x32x4x6912, .i1⟩
  | .hbm, ⟨78, _⟩ => ⟨S_, .bf16⟩
  | .hbm, ⟨79, _⟩ => ⟨S17x20x32x4x6912, .bf16⟩
  | .hbm, ⟨80, _⟩ => ⟨S17x20x32x4x6912, .bf16⟩
  | .hbm, ⟨81, _⟩ => ⟨S17x20x32x4x6912, .bf16⟩
  | .hbm, ⟨82, _⟩ => ⟨S17x20x32x4x6912, .bf16⟩
  | .hbm, ⟨83, _⟩ => ⟨S17x20x32x4x6912, .bf16⟩
  | .hbm, ⟨84, _⟩ => ⟨S17x20x1x1x6912, .bf16⟩
  | .hbm, ⟨85, _⟩ => ⟨S17x20x32x4x6912, .bf16⟩
  | .hbm, ⟨86, _⟩ => ⟨S17x20x32x4x6912, .bf16⟩
  | .hbm, ⟨87, _⟩ => ⟨S17x2560x6912, .bf16⟩
  | .hbm, ⟨88, _⟩ => ⟨S1792, .i32⟩
  | .hbm, ⟨89, _⟩ => ⟨S1x1792, .i32⟩
  | .hbm, ⟨90, _⟩ => ⟨S17, .i32⟩
  | .hbm, ⟨91, _⟩ => ⟨S17x1, .i32⟩
  | .hbm, ⟨92, _⟩ => ⟨S17x1792, .i32⟩
  | .hbm, ⟨93, _⟩ => ⟨S17x1792, .i32⟩
  | .hbm, ⟨94, _⟩ => ⟨S17x1792, .i1⟩
  | .hbm, ⟨95, _⟩ => ⟨S17, .i32⟩
  | .hbm, ⟨96, _⟩ => ⟨S17x1, .i32⟩
  | .hbm, ⟨97, _⟩ => ⟨S17x1792, .i32⟩
  | .hbm, ⟨98, _⟩ => ⟨S17x1792, .i32⟩
  | .hbm, ⟨99, _⟩ => ⟨S17x1792, .i1⟩
  | .hbm, ⟨100, _⟩ => ⟨S17x1792, .i1⟩
  | .hbm, ⟨101, _⟩ => ⟨S17x6912x1792, .f32⟩
  | .hbm, ⟨102, _⟩ => ⟨S17x1792x6912, .f32⟩
  | .hbm, ⟨103, _⟩ => ⟨S17x1792x1, .i1⟩
  | .hbm, ⟨104, _⟩ => ⟨S_, .f32⟩
  | .hbm, ⟨105, _⟩ => ⟨S_, .f32⟩
  | .hbm, ⟨106, _⟩ => ⟨S17x1792x6912, .i1⟩
  | .hbm, ⟨107, _⟩ => ⟨S17x1792x6912, .f32⟩
  | .hbm, ⟨108, _⟩ => ⟨S17x1792x6912, .f32⟩
  | .hbm, ⟨109, _⟩ => ⟨S_, .f32⟩
  | .hbm, ⟨110, _⟩ => ⟨S1792x6912, .f32⟩
  | .hbm, ⟨111, _⟩ => ⟨S1792x6912, .f32⟩
  | .hbm, ⟨112, _⟩ => ⟨S1792x6912, .bf16⟩
  | .local _ .vmem, ⟨0, _⟩ => ⟨S2560x6912, .fp8e4m3⟩
  | .local _ .vmem, ⟨1, _⟩ => ⟨S2560x6912, .bf16⟩
  | _, _ => ⟨S14x128x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_c_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst : Ref sig .tc := ⟨.hbm, 78, rfl⟩
abbrev main_call2_v0 : Ref sig .tc := ⟨.hbm, 79, rfl⟩
abbrev main_call2_v1 : Ref sig .tc := ⟨.hbm, 80, rfl⟩
abbrev main_v58 : Ref sig .tc := ⟨.hbm, 81, rfl⟩
abbrev main_call3_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v80 : Ref sig .tc := ⟨.hbm, 108, rfl⟩
abbrev main_cst_13 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2560x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Words.lean ====
/- The words that steer the loop over a tenant's row blocks: for row offsets within the 1792 rows, the block loop's
   bounds, its block starts and the remainder loop's bounds, as numbers; and the side conditions the body assumes. -/
module

public import proofs.«01_k».proof.KernelIdeal

@[expose] public section

set_option maxRecDepth 65536

namespace Cert.Delta

open Cert.KernelIdeal
open Idealize.ShloMosaic Idealize.ShloMosaic.TcCoe

/-- The first row block's start: the offset rounded down to a multiple of 16, as the kernel computes it. -/
def baseW (lo : BitVec 32) : BitVec 32 :=
  Scalar.muli (Scalar.select (Scalar.andi (Scalar.cmpi .ne
      (Scalar.subi (Scalar.extui (Scalar.cmpi .sgt lo 0#32)) (Scalar.extui (Scalar.cmpi .slt lo 0#32)))
      (Scalar.subi (Scalar.extui (Scalar.cmpi .sgt 16#32 0#32)) (Scalar.extui (Scalar.cmpi .slt 16#32 0#32))))
      (Scalar.cmpi .ne (Scalar.remsi lo 16#32) 0#32))
    (Scalar.subi (Scalar.divsi lo 16#32) 1#32) (Scalar.divsi lo 16#32)) 16#32

/-- The number of row blocks, as the kernel computes it from the count of rows (and its rounding up). -/
def blocksW (x : BitVec 32) : BitVec 32 :=
  Scalar.addi 0#32 (Scalar.muli (Scalar.divsi (Scalar.subi (Scalar.divsi x 128#32) 0#32) 1#32) 1#32)

theorem baseW_nat : ∀ n : Fin 1793, baseW (BitVec.ofNat 32 n) = BitVec.ofNat 32 (n.val / 16 * 16) := by decide +kernel

theorem blocksW_nat : ∀ n : Fin 2048, blocksW (BitVec.ofNat 32 n) = BitVec.ofNat 32 (n.val / 128) := by decide +kernel

theorem divsiW_nat : ∀ n : Fin 2048, Scalar.divsi (BitVec.ofNat 32 n) 128#32 = BitVec.ofNat 32 (n.val / 128) := by
  decide +kernel

theorem minW_nat : ∀ n : Fin 4096, Scalar.minsi (BitVec.ofNat 32 n) 1664#32 = BitVec.ofNat 32 (min n.val 1664) := by
  decide +kernel

theorem baseW_eq (lo : BitVec 32) (h : lo.toNat ≤ 1792) : baseW lo = BitVec.ofNat 32 (lo.toNat / 16 * 16) := by
  have := baseW_nat ⟨lo.toNat, by omega⟩
  simpa using this

/-- The rows left from the first block's start, rounded up for the division. -/
theorem count_eq (lo hi : BitVec 32) (h : lo.toNat ≤ 1792) (h' : hi.toNat ≤ 1792) (hlt : lo.toNat < hi.toNat) :
    Scalar.addi (Scalar.subi hi (baseW lo)) 127#32 = BitVec.ofNat 32 (hi.toNat - lo.toNat / 16 * 16 + 127) := by
  rw [baseW_eq lo h]
  apply BitVec.eq_of_toNat_eq
  simp only [Scalar.addi, Scalar.subi, IntOp.addi, IntOp.subi, BitVec.toNat_add, BitVec.toNat_sub, BitVec.toNat_ofNat]
  omega

theorem cond2_iff (lo hi : BitVec 32) (h : lo.toNat ≤ 1792) (h' : hi.toNat ≤ 1792) :
    k0_cond2 lo hi = 1#1 ↔ lo.toNat < hi.toNat := by
  have e : (hi.slt lo) = hi.slt lo := rfl
  have hs : (lo.slt hi) = decide (lo.toNat < hi.toNat) := by
    rw [BitVec.slt_eq_ult_of_msb_eq]
    · rfl
    · rw [BitVec.msb_eq_false_iff_two_mul_lt.mpr (by omega), BitVec.msb_eq_false_iff_two_mul_lt.mpr (by omega)]
  unfold k0_cond2
  simp only [Scalar.cmpi, IntOp.cmpi, hs]
  by_cases hc : lo.toNat < hi.toNat <;> simp [hc] <;> decide

/-- The block loop's trip count. -/
def nblk (lo hi : BitVec 32) : Nat := (hi.toNat - lo.toNat / 16 * 16 + 127) / 128

theorem t2_ub (lo hi : BitVec 32) (h : lo.toNat ≤ 1792) (h' : hi.toNat ≤ 1792) (hlt : lo.toNat < hi.toNat) :
    (k0_t2_loop lo hi).ub = BitVec.ofNat 32 (nblk lo hi) := by
  have e : (k0_t2_loop lo hi).ub = blocksW (Scalar.addi (Scalar.subi hi (baseW lo)) 127#32) := rfl
  rw [e, count_eq lo hi h h' hlt]
  exact blocksW_nat ⟨_, by omega⟩

theorem nblk_lt (lo hi : BitVec 32) (h' : hi.toNat ≤ 1792) : nblk lo hi < 16 := by unfold nblk; omega

theorem toInt_small : ∀ n : Fin 4096, (BitVec.ofNat 32 n.val).toInt = n.val := by decide +kernel

theorem t2_trips (lo hi : BitVec 32) (h : lo.toNat ≤ 1792) (h' : hi.toNat ≤ 1792) (hlt : lo.toNat < hi.toNat) :
    (k0_t2_loop lo hi).trips = nblk lo hi := by
  have hb := nblk_lt lo hi h'
  have e : (k0_t2_loop lo hi).trips = (((k0_t2_loop lo hi).ub.toInt - (0#32 : BitVec 32).toInt + (1#32 : BitVec 32).toInt - 1) / (1#32 : BitVec 32).toInt).toNat := rfl
  rw [e, t2_ub lo hi h h' hlt, toInt_small ⟨_, by omega⟩]
  simp

theorem t2_ok (lo hi : BitVec 32) (h : lo.toNat ≤ 1792) (h' : hi.toNat ≤ 1792) (hlt : lo.toNat < hi.toNat) :
    (k0_t2_loop lo hi).OK := by
  have hb := nblk_lt lo hi h'
  refine ⟨(by decide : (0 : ℤ) < (1#32 : BitVec 32).toInt), ?_⟩
  have := t2_trips lo hi h h' hlt
  change (0#32 : BitVec 32).toInt + ((k0_t2_loop lo hi).trips : ℤ) * (1#32 : BitVec 32).toInt < 2 ^ (32 - 1)
  rw [this]; simp; omega

theorem t3_bounds (lo hi : BitVec 32) (h : lo.toNat ≤ 1792) (h' : hi.toNat ≤ 1792) (hlt : lo.toNat < hi.toNat) :
    (k0_t3_loop lo hi).lb = BitVec.ofNat 32 (nblk lo hi) ∧ (k0_t3_loop lo hi).ub = BitVec.ofNat 32 (nblk lo hi) := by
  refine ⟨t2_ub lo hi h h' hlt, ?_⟩
  have e : (k0_t3_loop lo hi).ub = Scalar.addi 0#32 (Scalar.subi (Scalar.divsi (Scalar.addi (Scalar.subi hi (baseW lo)) 127#32) 128#32) 0#32) := rfl
  rw [e, count_eq lo hi h h' hlt, divsiW_nat ⟨_, by omega⟩]
  simp [Scalar.addi, Scalar.subi, IntOp.addi, IntOp.subi, nblk]

theorem t3_trips (lo hi : BitVec 32) (h : lo.toNat ≤ 1792) (h' : hi.toNat ≤ 1792) (hlt : lo.toNat < hi.toNat) :
    (k0_t3_loop lo hi).trips = 0 := by
  obtain ⟨e1, e2⟩ := t3_bounds lo hi h h' hlt
  have e : (k0_t3_loop lo hi).trips = (((k0_t3_loop lo hi).ub.toInt - (k0_t3_loop lo hi).lb.toInt + (1#32 : BitVec 32).toInt - 1) / (1#32 : BitVec 32).toInt).toNat := rfl
  rw [e, e1, e2]; simp

theorem t3_ok (lo hi : BitVec 32) (h : lo.toNat ≤ 1792) (h' : hi.toNat ≤ 1792) (hlt : lo.toNat < hi.toNat) :
    (k0_t3_loop lo hi).OK := by
  have hb := nblk_lt lo hi h'
  refine ⟨(by decide : (0 : ℤ) < (1#32 : BitVec 32).toInt), ?_⟩
  have := t3_trips lo hi h h' hlt
  change (k0_t3_loop lo hi).lb.toInt + ((k0_t3_loop lo hi).trips : ℤ) * (1#32 : BitVec 32).toInt < 2 ^ (32 - 1)
  rw [this, (t3_bounds lo hi h h' hlt).1, toInt_small ⟨_, by omega⟩]; simp; omega

/-- Block `k`'s first row. -/
def row0 (lo : BitVec 32) (k : Nat) : Nat := min (lo.toNat / 16 * 16 + k * 128) 1664

/-- Block `k`'s first row before the clamp, as a word. -/
theorem pos_eq (lo : BitVec 32) (h : lo.toNat ≤ 1792) (k : Nat) (hk : k < 16) :
    Scalar.addi (baseW lo) (Scalar.muli (Scf.iv 0#32 1#32 k) 128#32) = BitVec.ofNat 32 (lo.toNat / 16 * 16 + k * 128) := by
  rw [baseW_eq lo h]
  apply BitVec.eq_of_toNat_eq
  simp only [Scalar.addi, Scalar.muli, IntOp.addi, IntOp.muli, Scf.iv, BitVec.toNat_add, BitVec.toNat_mul, BitVec.toNat_ofNat]
  omega

theorem mult1_eq (lo hi : BitVec 32) (h : lo.toNat ≤ 1792) (h' : hi.toNat ≤ 1792) (hlt : lo.toNat < hi.toNat)
    (k : Fin (k0_t2_loop lo hi).trips) : k0_mult1 lo hi k = BitVec.ofNat 32 (row0 lo k) := by
  have hk : k.val < 16 := by
    have := lt_of_lt_of_eq k.isLt (t2_trips lo hi h h' hlt); have := nblk_lt lo hi h'; omega
  have e : k0_mult1 lo hi k = Scalar.minsi (Scalar.addi (baseW lo) (Scalar.muli (Scf.iv 0#32 1#32 k) 128#32)) 1664#32 := rfl
  rw [e, pos_eq lo h k hk]
  exact minW_nat ⟨_, by omega⟩

theorem off43_eq (lo hi : BitVec 32) (h : lo.toNat ≤ 1792) (h' : hi.toNat ≤ 1792) (hlt : lo.toNat < hi.toNat)
    (k : Fin (k0_t2_loop lo hi).trips) : k0_off43 lo hi k = ![row0 lo k, 0] := by
  have e : k0_off43 lo hi k = ![(Scalar.indexCast (k0_mult1 lo hi k)).toNat, 0] := rfl
  rw [e, mult1_eq lo hi h h' hlt]
  have : row0 lo k ≤ 1664 := by unfold row0; omega
  simp [Scalar.indexCast]; omega

theorem off44_eq (lo hi : BitVec 32) (h : lo.toNat ≤ 1792) (h' : hi.toNat ≤ 1792) (hlt : lo.toNat < hi.toNat)
    (k : Fin (k0_t2_loop lo hi).trips) : k0_off44 lo hi k = ![row0 lo k, 0] := off43_eq lo hi h h' hlt k

/-- THE SIDE CONDITIONS THE BODY ASSUMES hold of offsets within the rows. -/
theorem chk1_of_le (lo hi : BitVec 32) (h : lo.toNat ≤ 1792) (h' : hi.toNat ≤ 1792) : k0_chk1 lo hi := by
  have hlt := fun hc => (cond2_iff lo hi h h').mp hc
  unfold k0_chk1
  refine ⟨fun hc => t2_ok lo hi h h' (hlt hc), fun k hc => ?_, fun k hc a => ?_, fun k hc a => ?_,
    fun hc => t3_ok lo hi h h' (hlt hc), fun k hc => ?_, fun k hc a => ?_, fun k hc a => ?_⟩
  · rw [mult1_eq lo hi h h' (hlt hc)]
    have : row0 lo k ≤ 1664 := by unfold row0; omega
    rw [BitVec.toNat_ofNat, Nat.mod_eq_of_lt (by omega)]
    unfold row0; omega
  · rw [off43_eq lo hi h h' (hlt hc)]
    have : row0 lo k ≤ 1664 := by unfold row0; omega
    fin_cases a <;> simp <;> omega
  · rw [off44_eq lo hi h h' (hlt hc)]
    have : row0 lo k ≤ 1664 := by unfold row0; omega
    fin_cases a <;> simp <;> omega
  all_goals exact absurd (lt_of_lt_of_eq k.isLt (t3_trips lo hi h h' (hlt hc))) (Nat.not_lt_zero _)

end Cert.Delta
-- ==== Proof.Loop2.lean ====
/- The loop over one tenant's row blocks: what it leaves in the accumulator, as a function of the rows of x, the
   tenant's weights and the accumulator it starts from. -/
module

public import proofs.«01_k».proof.Proof.Words
public import proofs.«01_k».proof.Proof.Gen.KernelIdeal.Loops
public import Idealize.ShloMosaic.Lib.Pipeline.Kit
public import Idealize.ShloMosaic.Lib.Pipeline.FrameBody
public import Idealize.ShloMosaic.Lib.Pipeline.Frame

@[expose] public section

set_option maxRecDepth 8192
set_option maxHeartbeats 4000000

noncomputable section

namespace Cert.Delta

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One written rectangle over given contents reads as the overlay. -/
theorem read_writes_one {sig : RefSig} {κ : Kind} {sp : Space} {s : Shape} {e : EltTy} {Val : EltTy → Type} [∀ e, Nonempty (Val e)]
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_cons_miss v f ⟨r, w⟩ [] y hy, Rect.overlay_of_not_mem _ _ _ hy, View.writes_nil]

/-- So, of a whole memref's contents. -/
theorem writes_one_unread {sig : RefSig} {κ : Kind} {sp : Space} {s : Shape} {e : EltTy} {Val : EltTy → Type} [∀ e, Nonempty (Val e)]
    {m : Memref sig κ sp s e} (h : m.IsWhole) (X : s.Idx → Val e) (r : Rect s) (w : r.shape.Idx → Val e) :
    m.view.writes Val (h.unread X) [⟨r, w⟩] = h.unread (r.overlay X w) := by
  apply h.eq_unread
  rw [read_writes_one, h.read_unread]

theorem readAt_unread {sig : RefSig} {κ : Kind} {sp : Space} {s : Shape} {e : EltTy} {Val : EltTy → Type}
    {m : Memref sig κ sp s e} (h : m.IsWhole) (X : s.Idx → Val e) (r : Rect s) :
    m.view.readAt Val r.toLoadRect (h.unread X) = View.ld X r := by
  rw [View.readAt_eq_ld, h.read_unread]

section
variable (v19 v22 : Elt F .i32) (hw : k0_chk1 v19 v22) (h2 : k0_cond2 v19 v22 = 1#1) (v1486 : BitVec 32) (v1497 : BitVec 1)
  (v1498 : BitVec 32) (v374 : BitVec 32) (X : Vec F S1792x2560 .bf16) (W : Vec F S2560x256 .bf16)

/-- Block `k`'s rows of the accumulator. -/
abbrev rect44 (k : Fin (k0_t2_loop v19 v22).trips) : Rect S1792x256 :=
  Rect.unit (s := S1792x256) (k0_off44 v19 v22 k) S128x256.size (k0_off44_inb v19 v22 hw k h2)

/-- Block `k`'s rows of x. -/
abbrev rect43 (k : Fin (k0_t2_loop v19 v22).trips) : Rect S1792x2560 :=
  Rect.unit (s := S1792x2560) (k0_off43 v19 v22 k) S128x2560.size (k0_off43_inb v19 v22 hw k h2)

/-- All of a tenant's weights. -/
abbrev rectW : Rect S2560x256 := Rect.unit (s := S2560x256) ![0, 0] S2560x256.size inb_S2560x256_S2560x256_0_0

/-- Block `k`: the accumulator's rows of the block replaced by what the trip stores. -/
def blkAt (k : Fin (k0_t2_loop v19 v22).trips) (A : Vec F S1792x256 .f32) : Vec F S1792x256 .f32 :=
  (rect44 v19 v22 hw h2 k).overlay A (k0_pay3 v19 v22 v1486 v1497 v1498 v374 k (View.ld X (rect43 v19 v22 hw h2 k))
    (View.ld W rectW) (View.ld A (rect44 v19 v22 hw h2 k)))

/-- The accumulator after the first `k` blocks. -/
def accB (A : Vec F S1792x256 .f32) : ℕ → Vec F S1792x256 .f32
  | 0 => A
  | k + 1 => if h : k < (k0_t2_loop v19 v22).trips then blkAt v19 v22 hw h2 v1486 v1497 v1498 v374 X W ⟨k, h⟩ (accB A k) else accB A k

theorem accB_succ (A : Vec F S1792x256 .f32) (k : Fin (k0_t2_loop v19 v22).trips) :
    accB v19 v22 hw h2 v1486 v1497 v1498 v374 X W A (k.val + 1)
      = blkAt v19 v22 hw h2 v1486 v1497 v1498 v374 X W k (accB v19 v22 hw h2 v1486 v1497 v1498 v374 X W A k.val) := by
  rw [accB]; exact dif_pos k.isLt

end

section
variable (𝒱 : Variants) (c : Dev nD) (bd : Option 𝒱.V) (E : Set ℕ) (i : grid0.Coords)
  (arg1 : Memref sig .tc .smem S18 .i32) (harg1 : arg1.IsWhole) (arg2 : Memref sig .tc .vmem S1792x2560 .bf16) (harg2 : arg2.IsWhole)
  (arg3 : Memref sig .tc .vmem S2560x256 .fp8e4m3) (harg3 : arg3.IsWhole) (arg4 : Memref sig .tc .vmem S1x256 .f32) (harg4 : arg4.IsWhole)
  (arg5 : Memref sig .tc .vmem S17x640x256 .i8) (harg5 : arg5.IsWhole) (arg6 : Memref sig .tc .vmem S17x320x256 .i8) (harg6 : arg6.IsWhole)
  (arg7 : Memref sig .tc .vmem S17x20x256 .bf16) (harg7 : arg7.IsWhole) (arg8 : Memref sig .tc .vmem S1792x256 .bf16) (harg8 : arg8.IsWhole)
  (arg9 : Memref sig .tc .vmem S1792x2560 .bf16) (harg9 : arg9.IsWhole) (arg10 : Memref sig .tc .vmem S2560x256 .bf16) (harg10 : arg10.IsWhole)
  (arg11 : Memref sig .tc .vmem S1792x256 .f32) (harg11 : arg11.IsWhole)
  (v19 v22 : Elt F .i32) (hw : k0_chk1 v19 v22) (h2 : k0_cond2 v19 v22 = 1#1) (v1486 : BitVec 32) (v1497 : BitVec 1)
  (v1498 : BitVec 32) (v374 : BitVec 32) (f9 : BufTy.Contents (Elt F) arg9.view.ty) (f10 : BufTy.Contents (Elt F) arg10.view.ty) (f11 : BufTy.Contents (Elt F) arg11.view.ty)

set_option warn.classDefReducibility false in
/-- The block loop by its invariant: x and the weights stay, the accumulator is `accB`'s. -/
def loop2 : LoopInvTy_k0_t2 (F := F) Unit ℕ (UR sig nD τ) ℕ 𝒱 c bd E i arg1 harg1 arg2 harg2 arg3 harg3 arg4 harg4 arg5 harg5 arg6 harg6
    arg7 harg7 arg8 harg8 arg9 harg9 arg10 harg10 arg11 harg11 v19 v22 hw h2 v1486 v1497 v1498 v374 where
  inv k _ := iprop((arg9.view.loc (c : Thread nD τ) ↦[arg9.view.set]{fullShare} f9)
    ∗ (arg10.view.loc (c : Thread nD τ) ↦[arg10.view.set]{fullShare} f10)
    ∗ (∃ f, (arg11.view.loc (c : Thread nD τ) ↦[arg11.view.set]{fullShare} f)
      ∗ ⌜arg11.view.read (Elt F) f = accB v19 v22 hw h2 v1486 v1497 v1498 v374 (arg9.view.read (Elt F) f9) (arg10.view.read (Elt F) f10) (arg11.view.read (Elt F) f11) k⌝))
  step k acc := by
    unfold k0_t2_body
    iintro ⟨H9, H10, ⟨%f, H11, %hf⟩⟩
    sl_exec
    sl_step
    isplitl [H9]; · iexact H9
    isplitl [H10]; · iexact H10
    iexists _; isplitl [H11]; · iexact H11
    ipureintro
    rw [accB_succ, blkAt, ← hf]
    exact read_writes_one _ _ _ _

end

end Cert.Delta
-- ==== Proof.Part35.lean ====
/- One tenant's weights, decoded tile by tile into the scratch. -/
module

public import proofs.«01_k».proof.Proof.Loop2

@[expose] public section

set_option maxRecDepth 8192
set_option maxHeartbeats 40000000

noncomputable section

namespace Cert.Delta

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The packed word rows of decoded position 1, 2 and 3 of a tile, and the decoded position 0. -/
def selW1 (v27 : Vec F S1x64x256 .i8) (v30 : Vec F S1x32x256 .i8) : IVec S8x256 32 :=
  k0_pay30 (k0_pay22 v27) (k0_pay23 v27) (k0_pay24 v30) (k0_pay25 v30) (k0_pay26 v30)

@[inherit_doc selW1] def selW2 (v27 : Vec F S1x64x256 .i8) (v30 : Vec F S1x32x256 .i8) : IVec S8x256 32 :=
  k0_pay31 (k0_pay22 v27) (k0_pay23 v27) (k0_pay24 v30) (k0_pay25 v30) (k0_pay26 v30)

@[inherit_doc selW1] def selW3 (v27 : Vec F S1x64x256 .i8) (v30 : Vec F S1x32x256 .i8) : IVec S8x256 32 :=
  k0_pay32 (k0_pay23 v27) (k0_pay24 v30)

@[inherit_doc selW1] def dec0 (v27 : Vec F S1x64x256 .i8) (v30 : Vec F S1x32x256 .i8) : FVec F S64x256 .bf16 :=
  k0_pay33 k0_pay20 (k0_pay22 v27) (k0_pay25 v30) (k0_pay26 v30)

/-- One 256-row tile of a tenant's weights from its values, its indices and its two groups' scales. -/
def tileF (v27 : Vec F S1x64x256 .i8) (v30 : Vec F S1x32x256 .i8) (v33 v36 : Vec F S1x1x256 .bf16) : FVec F S256x256 .bf16 :=
  k0_pay45 (k0_pay34 (k0_pay18 v33) (dec0 v27 v30)) (k0_pay35 (k0_pay19 v36) (dec0 v27 v30))
    (k0_pay37 (k0_pay18 v33) k0_pay20 (selW1 v27 v30)) (k0_pay38 (k0_pay19 v36) k0_pay20 (selW1 v27 v30))
    (k0_pay40 (k0_pay18 v33) k0_pay20 (selW2 v27 v30)) (k0_pay41 (k0_pay19 v36) k0_pay20 (selW2 v27 v30))
    (k0_pay43 (k0_pay18 v33) k0_pay20 (selW3 v27 v30)) (k0_pay44 (k0_pay19 v36) k0_pay20 (selW3 v27 v30))

/-- The ten stores of a tenant's weights, the last first, from each tile's operands. -/
def pcs35 (a : Fin 10 → Vec F S1x64x256 .i8) (b : Fin 10 → Vec F S1x32x256 .i8) (s0 s1 : Fin 10 → Vec F S1x1x256 .bf16) :
    List (View.Piece (Elt F) S2560x256 .bf16) :=
  [⟨Rect.unit (s := S2560x256) ![2304, 0] S256x256.size inb_S2560x256_S256x256_2304_0, tileF (a 9) (b 9) (s0 9) (s1 9)⟩,
   ⟨Rect.unit (s := S2560x256) ![2048, 0] S256x256.size inb_S2560x256_S256x256_2048_0, tileF (a 8) (b 8) (s0 8) (s1 8)⟩,
   ⟨Rect.unit (s := S2560x256) ![1792, 0] S256x256.size inb_S2560x256_S256x256_1792_0, tileF (a 7) (b 7) (s0 7) (s1 7)⟩,
   ⟨Rect.unit (s := S2560x256) ![1536, 0] S256x256.size inb_S2560x256_S256x256_1536_0, tileF (a 6) (b 6) (s0 6) (s1 6)⟩,
   ⟨Rect.unit (s := S2560x256) ![1280, 0] S256x256.size inb_S2560x256_S256x256_1280_0, tileF (a 5) (b 5) (s0 5) (s1 5)⟩,
   ⟨Rect.unit (s := S2560x256) ![1024, 0] S256x256.size inb_S2560x256_S256x256_1024_0, tileF (a 4) (b 4) (s0 4) (s1 4)⟩,
   ⟨Rect.unit (s := S2560x256) ![768, 0] S256x256.size inb_S2560x256_S256x256_768_0, tileF (a 3) (b 3) (s0 3) (s1 3)⟩,
   ⟨Rect.unit (s := S2560x256) ![512, 0] S256x256.size inb_S2560x256_S256x256_512_0, tileF (a 2) (b 2) (s0 2) (s1 2)⟩,
   ⟨Rect.unit (s := S2560x256) ![256, 0] S256x256.size inb_S2560x256_S256x256_256_0, tileF (a 1) (b 1) (s0 1) (s1 1)⟩,
   ⟨Rect.unit (s := S2560x256) ![0, 0] S256x256.size inb_S2560x256_S256x256_0_0, tileF (a 0) (b 0) (s0 0) (s1 0)⟩]

/-! What a tenant's ten tiles load: the values, the indices and the scales of each tile's two groups. -/

def ld5 (t : Fin k0_t1_loop.trips) (X : Vec F S17x640x256 .i8) : Fin 10 → Vec F S1x64x256 .i8 :=
  ![View.ld X (Rect.unit (s := S17x640x256) (k0_off3 t) S1x64x256.size (k0_off3_inb t)),
    View.ld X (Rect.unit (s := S17x640x256) (k0_off7 t) S1x64x256.size (k0_off7_inb t)),
    View.ld X (Rect.unit (s := S17x640x256) (k0_off11 t) S1x64x256.size (k0_off11_inb t)),
    View.ld X (Rect.unit (s := S17x640x256) (k0_off15 t) S1x64x256.size (k0_off15_inb t)),
    View.ld X (Rect.unit (s := S17x640x256) (k0_off19 t) S1x64x256.size (k0_off19_inb t)),
    View.ld X (Rect.unit (s := S17x640x256) (k0_off23 t) S1x64x256.size (k0_off23_inb t)),
    View.ld X (Rect.unit (s := S17x640x256) (k0_off27 t) S1x64x256.size (k0_off27_inb t)),
    View.ld X (Rect.unit (s := S17x640x256) (k0_off31 t) S1x64x256.size (k0_off31_inb t)),
    View.ld X (Rect.unit (s := S17x640x256) (k0_off35 t) S1x64x256.size (k0_off35_inb t)),
    View.ld X (Rect.unit (s := S17x640x256) (k0_off39 t) S1x64x256.size (k0_off39_inb t))]

def ld6 (t : Fin k0_t1_loop.trips) (X : Vec F S17x320x256 .i8) : Fin 10 → Vec F S1x32x256 .i8 :=
  ![View.ld X (Rect.unit (s := S17x320x256) (k0_off4 t) S1x32x256.size (k0_off4_inb t)),
    View.ld X (Rect.unit (s := S17x320x256) (k0_off8 t) S1x32x256.size (k0_off8_inb t)),
    View.ld X (Rect.unit (s := S17x320x256) (k0_off12 t) S1x32x256.size (k0_off12_inb t)),
    View.ld X (Rect.unit (s := S17x320x256) (k0_off16 t) S1x32x256.size (k0_off16_inb t)),
    View.ld X (Rect.unit (s := S17x320x256) (k0_off20 t) S1x32x256.size (k0_off20_inb t)),
    View.ld X (Rect.unit (s := S17x320x256) (k0_off24 t) S1x32x256.size (k0_off24_inb t)),
    View.ld X (Rect.unit (s := S17x320x256) (k0_off28 t) S1x32x256.size (k0_off28_inb t)),
    View.ld X (Rect.unit (s := S17x320x256) (k0_off32 t) S1x32x256.size (k0_off32_inb t)),
    View.ld X (Rect.unit (s := S17x320x256) (k0_off36 t) S1x32x256.size (k0_off36_inb t)),
    View.ld X (Rect.unit (s := S17x320x256) (k0_off40 t) S1x32x256.size (k0_off40_inb t))]

def ld7 (t : Fin k0_t1_loop.trips) (X : Vec F S17x20x256 .bf16) : Fin 10 → Vec F S1x1x256 .bf16 :=
  ![View.ld X (Rect.unit (s := S17x20x256) (k0_off5 t) S1x1x256.size (k0_off5_inb t)),
    View.ld X (Rect.unit (s := S17x20x256) (k0_off9 t) S1x1x256.size (k0_off9_inb t)),
    View.ld X (Rect.unit (s := S17x20x256) (k0_off13 t) S1x1x256.size (k0_off13_inb t)),
    View.ld X (Rect.unit (s := S17x20x256) (k0_off17 t) S1x1x256.size (k0_off17_inb t)),
    View.ld X (Rect.unit (s := S17x20x256) (k0_off21 t) S1x1x256.size (k0_off21_inb t)),
    View.ld X (Rect.unit (s := S17x20x256) (k0_off25 t) S1x1x256.size (k0_off25_inb t)),
    View.ld X (Rect.unit (s := S17x20x256) (k0_off29 t) S1x1x256.size (k0_off29_inb t)),
    View.ld X (Rect.unit (s := S17x20x256) (k0_off33 t) S1x1x256.size (k0_off33_inb t)),
    View.ld X (Rect.unit (s := S17x20x256) (k0_off37 t) S1x1x256.size (k0_off37_inb t)),
    View.ld X (Rect.unit (s := S17x20x256) (k0_off41 t) S1x1x256.size (k0_off41_inb t))]

def ld7b (t : Fin k0_t1_loop.trips) (X : Vec F S17x20x256 .bf16) : Fin 10 → Vec F S1x1x256 .bf16 :=
  ![View.ld X (Rect.unit (s := S17x20x256) (k0_off6 t) S1x1x256.size (k0_off6_inb t)),
    View.ld X (Rect.unit (s := S17x20x256) (k0_off10 t) S1x1x256.size (k0_off10_inb t)),
    View.ld X (Rect.unit (s := S17x20x256) (k0_off14 t) S1x1x256.size (k0_off14_inb t)),
    View.ld X (Rect.unit (s := S17x20x256) (k0_off18 t) S1x1x256.size (k0_off18_inb t)),
    View.ld X (Rect.unit (s := S17x20x256) (k0_off22 t) S1x1x256.size (k0_off22_inb t)),
    View.ld X (Rect.unit (s := S17x20x256) (k0_off26 t) S1x1x256.size (k0_off26_inb t)),
    View.ld X (Rect.unit (s := S17x20x256) (k0_off30 t) S1x1x256.size (k0_off30_inb t)),
    View.ld X (Rect.unit (s := S17x20x256) (k0_off34 t) S1x1x256.size (k0_off34_inb t)),
    View.ld X (Rect.unit (s := S17x20x256) (k0_off38 t) S1x1x256.size (k0_off38_inb t)),
    View.ld X (Rect.unit (s := S17x20x256) (k0_off42 t) S1x1x256.size (k0_off42_inb t))]

/-- A tenant's ten stores as functions of the whole operands. -/
def pcsW (t : Fin k0_t1_loop.trips) (V : Vec F S17x640x256 .i8) (I : Vec F S17x320x256 .i8) (D : Vec F S17x20x256 .bf16) :
    List (View.Piece (Elt F) S2560x256 .bf16) := pcs35 (ld5 t V) (ld6 t I) (ld7 t D) (ld7b t D)

section
variable (𝒱 : Variants) (c : Dev nD) (bd : Option 𝒱.V) (E : Set ℕ) (i : grid0.Coords)
  (arg1 : Memref sig .tc .smem S18 .i32) (harg1 : arg1.IsWhole) (arg2 : Memref sig .tc .vmem S1792x2560 .bf16) (harg2 : arg2.IsWhole)
  (arg3 : Memref sig .tc .vmem S2560x256 .fp8e4m3) (harg3 : arg3.IsWhole) (arg4 : Memref sig .tc .vmem S1x256 .f32) (harg4 : arg4.IsWhole)
  (arg5 : Memref sig .tc .vmem S17x640x256 .i8) (harg5 : arg5.IsWhole) (arg6 : Memref sig .tc .vmem S17x320x256 .i8) (harg6 : arg6.IsWhole)
  (arg7 : Memref sig .tc .vmem S17x20x256 .bf16) (harg7 : arg7.IsWhole) (arg8 : Memref sig .tc .vmem S1792x256 .bf16) (harg8 : arg8.IsWhole)
  (arg9 : Memref sig .tc .vmem S1792x2560 .bf16) (harg9 : arg9.IsWhole) (arg10 : Memref sig .tc .vmem S2560x256 .bf16) (harg10 : arg10.IsWhole)
  (arg11 : Memref sig .tc .vmem S1792x256 .f32) (harg11 : arg11.IsWhole) (k0_t1 : Fin k0_t1_loop.trips)

abbrev Res35 (f5 : BufTy.Contents (Elt F) arg5.view.ty) (f6 : BufTy.Contents (Elt F) arg6.view.ty) (f7 : BufTy.Contents (Elt F) arg7.view.ty)
    (f10 : BufTy.Contents (Elt F) arg10.view.ty) : sProp (MT nD τ sig Unit (Elt F) ℕ (UR sig nD τ) ℕ) :=
  iprop((arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg10.view.loc (c : Thread nD τ) ↦[arg10.view.set]{fullShare} f10))

theorem run35 (arg12 : BitVec 32) (v19 : Elt F .i32) (V : Vec F S17x640x256 .i8) (I : Vec F S17x320x256 .i8) (D : Vec F S17x20x256 .bf16)
    (f10 : BufTy.Contents (Elt F) arg10.view.ty) :
      Res35 (F := F) c arg5 arg6 arg7 arg10 (harg5.unread V) (harg6.unread I) (harg7.unread D) f10
      ⊢ wp frame (wpE (defs₀ (F := F)) 𝒱 (c : Thread nD τ) bd) E
          (k0_part35 (F := F) i arg1 harg1 arg2 harg2 arg3 harg3 arg4 harg4 arg5 harg5 arg6 harg6 arg7 harg7 arg8 harg8 arg9 harg9 arg10 harg10 arg11 harg11 k0_t1 arg12 v19)
          (fun v => iprop(⌜v = ⟨Scalar.divsi v19 16#32, Scalar.cmpi .ne (Scalar.subi (Scalar.extui (Scalar.cmpi .sgt v19 0#32)) (Scalar.extui (Scalar.cmpi .slt v19 0#32)))
              (Scalar.subi (Scalar.extui (Scalar.cmpi .sgt 16#32 0#32)) (Scalar.extui (Scalar.cmpi .slt 16#32 0#32))), Scalar.remsi v19 16#32, 0#32⟩⌝
            ∗ Res35 (F := F) c arg5 arg6 arg7 arg10 (harg5.unread V) (harg6.unread I) (harg7.unread D)
              (arg10.view.writes (Elt F) f10 (pcsW k0_t1 V I D)))) := by
  simp only [k0_part35_eq_skeleton]
  unfold k0_part35_skel
  simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel
  iintro ⟨H5, H6, H7, H10⟩
  sl_exec
  sl_step
  isplitr
  · ipureintro; rfl
  isplitl [H5]; · iexact H5
  isplitl [H6]; · iexact H6
  isplitl [H7]; · iexact H7
  unfold pcsW ld5 ld6 ld7 ld7b
  simp only [readAt_unread]
  iexact H10

end

end Cert.Delta
-- ==== Proof.Loop1.lean ====
/- The loop over the tenants: what it leaves in the accumulator. -/
module

public import proofs.«01_k».proof.Proof.Part35

@[expose] public section

set_option maxRecDepth 8192
set_option maxHeartbeats 40000000

noncomputable section

namespace Cert.Delta

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The accumulator after a tenant with offsets `lo` and `hi`: its row blocks in turn, if it has rows. -/
def tenant (lo hi : BitVec 32) (X : Vec F S1792x2560 .bf16) (W : Vec F S2560x256 .bf16) (A : Vec F S1792x256 .f32) : Vec F S1792x256 .f32 :=
  if h : k0_chk1 lo hi ∧ k0_cond2 lo hi = 1#1 then
    accB lo hi h.1 h.2 (Scalar.divsi lo 16#32) (Scalar.cmpi .ne (Scalar.subi (Scalar.extui (Scalar.cmpi .sgt lo 0#32)) (Scalar.extui (Scalar.cmpi .slt lo 0#32)))
      (Scalar.subi (Scalar.extui (Scalar.cmpi .sgt 16#32 0#32)) (Scalar.extui (Scalar.cmpi .slt 16#32 0#32)))) (Scalar.remsi lo 16#32) 0#32 X W A (Scf.trips (k0_t2_loop lo hi).lb (k0_t2_loop lo hi).ub (k0_t2_loop lo hi).st)
  else A

theorem tenant_pos (lo hi : BitVec 32) (h1 : k0_chk1 lo hi) (h2 : k0_cond2 lo hi = 1#1) (X : Vec F S1792x2560 .bf16) (W : Vec F S2560x256 .bf16)
    (A : Vec F S1792x256 .f32) : tenant lo hi X W A
      = accB lo hi h1 h2 (Scalar.divsi lo 16#32) (Scalar.cmpi .ne (Scalar.subi (Scalar.extui (Scalar.cmpi .sgt lo 0#32)) (Scalar.extui (Scalar.cmpi .slt lo 0#32)))
      (Scalar.subi (Scalar.extui (Scalar.cmpi .sgt 16#32 0#32)) (Scalar.extui (Scalar.cmpi .slt 16#32 0#32)))) (Scalar.remsi lo 16#32) 0#32 X W A
        (Scf.trips (k0_t2_loop lo hi).lb (k0_t2_loop lo hi).ub (k0_t2_loop lo hi).st) := by
  unfold tenant
  rw [dif_pos ⟨h1, h2⟩]

theorem t3_trips' (lo hi : BitVec 32) (h : lo.toNat ≤ 1792) (h' : hi.toNat ≤ 1792) (hlt : lo.toNat < hi.toNat) :
    Scf.trips (k0_t3_loop lo hi).lb (k0_t3_loop lo hi).ub (k0_t3_loop lo hi).st = 0 := t3_trips lo hi h h' hlt

theorem tenant_neg (lo hi : BitVec 32) (h2 : ¬ k0_cond2 lo hi = 1#1) (X : Vec F S1792x2560 .bf16) (W : Vec F S2560x256 .bf16)
    (A : Vec F S1792x256 .f32) : tenant lo hi X W A = A := by
  unfold tenant
  rw [dif_neg fun h => h2 h.2]

/-- A tenant's two offsets, as the loop reads them from the table. -/
def loW (T : Vec F S18 .i32) (k : Fin k0_t1_loop.trips) : BitVec 32 :=
  View.ld T (Rect.unit (s := S18) (k0_off1 k) S1.size (k0_off1_inb k)) (Shape.Idx.first (numel1_S1.symm ▸ Nat.one_pos))

@[inherit_doc loW] def hiW (T : Vec F S18 .i32) (k : Fin k0_t1_loop.trips) : BitVec 32 :=
  View.ld T (Rect.unit (s := S18) (k0_off2 k) S1.size (k0_off2_inb k)) (Shape.Idx.first (numel1_S1.symm ▸ Nat.one_pos))

/-- The table's words are row offsets. -/
def WordsOK (T : Vec F S18 .i32) : Prop := ∀ y, (T y : BitVec 32).toNat ≤ 1792

theorem WordsOK.lo {T : Vec F S18 .i32} (h : WordsOK T) (k : Fin k0_t1_loop.trips) : (loW T k).toNat ≤ 1792 := h _
theorem WordsOK.hi {T : Vec F S18 .i32} (h : WordsOK T) (k : Fin k0_t1_loop.trips) : (hiW T k).toNat ≤ 1792 := h _

/-- A tenant's weights, decoded. -/
def wOf (k : Fin k0_t1_loop.trips) (V : Vec F S17x640x256 .i8) (I : Vec F S17x320x256 .i8) (D : Vec F S17x20x256 .bf16) : Vec F S2560x256 .bf16 :=
  View.canon (pcsW k V I D)

/-- The ten tiles cover the weights. -/
theorem cover_pcsW (k : Fin k0_t1_loop.trips) (V : Vec F S17x640x256 .i8) (I : Vec F S17x320x256 .i8) (D : Vec F S17x20x256 .bf16)
    (y : S2560x256.Idx) : ∃ p ∈ pcsW k V I D, y ∈ p.1.set := by
  have h0 : (y 0).val < 2560 := (y 0).isLt
  have h1 : (y 1).val < 256 := (y 1).isLt
  have key : ∀ (o : ℕ) (inb : ∀ a, (![o, 0] : Fin 2 → ℕ) a + S256x256.size a ≤ S2560x256.size a), (y 0).val / 256 * 256 = o →
      y ∈ (Rect.unit (s := S2560x256) ![o, 0] S256x256.size inb).set := by
    intro o inb ho
    rw [Rect.mem_set_unit]
    intro a
    fin_cases a
    · show o ≤ (y 0).val ∧ (y 0).val < o + 256
      omega
    · show 0 ≤ (y 1).val ∧ (y 1).val < 0 + 256
      omega
  unfold pcsW pcs35
  have hc : (y 0).val / 256 = 9 ∨ (y 0).val / 256 = 8 ∨ (y 0).val / 256 = 7 ∨ (y 0).val / 256 = 6 ∨ (y 0).val / 256 = 5
      ∨ (y 0).val / 256 = 4 ∨ (y 0).val / 256 = 3 ∨ (y 0).val / 256 = 2 ∨ (y 0).val / 256 = 1 ∨ (y 0).val / 256 = 0 := by omega
  simp only [List.exists_mem_cons_iff, List.not_mem_nil, false_and, exists_false, _root_.or_false]
  rcases hc with h | h | h | h | h | h | h | h | h | h
  · exact .inl (key _ _ (by omega))
  · exact .inr (.inl (key _ _ (by omega)))
  · exact .inr (.inr (.inl (key _ _ (by omega))))
  · exact .inr (.inr (.inr (.inl (key _ _ (by omega)))))
  · exact .inr (.inr (.inr (.inr (.inl (key _ _ (by omega))))))
  · exact .inr (.inr (.inr (.inr (.inr (.inl (key _ _ (by omega)))))))
  · exact .inr (.inr (.inr (.inr (.inr (.inr (.inl (key _ _ (by omega))))))))
  · exact .inr (.inr (.inr (.inr (.inr (.inr (.inr (.inl (key _ _ (by omega)))))))))
  · exact .inr (.inr (.inr (.inr (.inr (.inr (.inr (.inr (.inl (key _ _ (by omega))))))))))
  · exact .inr (.inr (.inr (.inr (.inr (.inr (.inr (.inr (.inr (key _ _ (by omega))))))))))

theorem read_pcsW {m : Memref sig .tc .vmem S2560x256 .bf16} (f : BufTy.Contents (Elt F) m.view.ty) (k : Fin k0_t1_loop.trips)
    (V : Vec F S17x640x256 .i8) (I : Vec F S17x320x256 .i8) (D : Vec F S17x20x256 .bf16) :
    m.view.read (Elt F) (m.view.writes (Elt F) f (pcsW k V I D)) = wOf k V I D :=
  View.read_writes_eq_canon _ _ _ (cover_pcsW k V I D)

/-- The accumulator after the first `k` tenants. -/
def accT (T : Vec F S18 .i32) (V : Vec F S17x640x256 .i8) (I : Vec F S17x320x256 .i8) (D : Vec F S17x20x256 .bf16)
    (X : Vec F S1792x2560 .bf16) (A : Vec F S1792x256 .f32) : ℕ → Vec F S1792x256 .f32
  | 0 => A
  | k + 1 => if h : k < k0_t1_loop.trips then tenant (loW T ⟨k, h⟩) (hiW T ⟨k, h⟩) X (wOf ⟨k, h⟩ V I D) (accT T V I D X A k) else accT T V I D X A k

theorem accT_succ (T : Vec F S18 .i32) (V : Vec F S17x640x256 .i8) (I : Vec F S17x320x256 .i8) (D : Vec F S17x20x256 .bf16)
    (X : Vec F S1792x2560 .bf16) (A : Vec F S1792x256 .f32) (k : Fin k0_t1_loop.trips) :
    accT T V I D X A (k.val + 1) = tenant (loW T k) (hiW T k) X (wOf k V I D) (accT T V I D X A k.val) := by
  rw [accT]; exact dif_pos k.isLt

section
variable (𝒱 : Variants) (c : Dev nD) (bd : Option 𝒱.V) (E : Set ℕ) (i : grid0.Coords)
  (arg1 : Memref sig .tc .smem S18 .i32) (harg1 : arg1.IsWhole) (arg2 : Memref sig .tc .vmem S1792x2560 .bf16) (harg2 : arg2.IsWhole)
  (arg3 : Memref sig .tc .vmem S2560x256 .fp8e4m3) (harg3 : arg3.IsWhole) (arg4 : Memref sig .tc .vmem S1x256 .f32) (harg4 : arg4.IsWhole)
  (arg5 : Memref sig .tc .vmem S17x640x256 .i8) (harg5 : arg5.IsWhole) (arg6 : Memref sig .tc .vmem S17x320x256 .i8) (harg6 : arg6.IsWhole)
  (arg7 : Memref sig .tc .vmem S17x20x256 .bf16) (harg7 : arg7.IsWhole) (arg8 : Memref sig .tc .vmem S1792x256 .bf16) (harg8 : arg8.IsWhole)
  (arg9 : Memref sig .tc .vmem S1792x2560 .bf16) (harg9 : arg9.IsWhole) (arg10 : Memref sig .tc .vmem S2560x256 .bf16) (harg10 : arg10.IsWhole)
  (arg11 : Memref sig .tc .vmem S1792x256 .f32) (harg11 : arg11.IsWhole)
  (T : BufTy.Contents (Elt F) arg1.view.ty)

/-- The two loops over a tenant's row blocks. -/
theorem t1_tail (lo hi : BitVec 32) (hch : k0_chk1 lo hi) (hc : k0_cond2 lo hi = 1#1) (hh : lo.toNat ≤ 1792 ∧ hi.toNat ≤ 1792)
    (f9 : BufTy.Contents (Elt F) arg9.view.ty) (f10 : BufTy.Contents (Elt F) arg10.view.ty) (f11 : BufTy.Contents (Elt F) arg11.view.ty) :
    (iprop((arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11)) : sProp (MT nD τ sig Unit (Elt F) ℕ (UR sig nD τ) ℕ))
    ⊢ wp frame (wpE (defs₀ (F := F)) 𝒱 (c : Thread nD τ) bd) E
        (do
          Scf.Loop.for (k0_t2_loop lo hi) (k0_t2_ok lo hi hch hc) ⟨⟩ (k0_t2_body (F := F) i arg1 harg1 arg2 harg2 arg3 harg3 arg4 harg4 arg5 harg5 arg6 harg6 arg7 harg7 arg8 harg8 arg9 harg9 arg10 harg10 arg11 harg11 lo hi hch hc (Scalar.divsi lo 16#32) (Scalar.cmpi .ne (Scalar.subi (Scalar.extui (Scalar.cmpi .sgt lo 0#32)) (Scalar.extui (Scalar.cmpi .slt lo 0#32)))
              (Scalar.subi (Scalar.extui (Scalar.cmpi .sgt 16#32 0#32)) (Scalar.extui (Scalar.cmpi .slt 16#32 0#32)))) (Scalar.remsi lo 16#32) 0#32)
          Scf.Loop.for (k0_t3_loop lo hi) (k0_t3_ok lo hi hch hc) ⟨⟩ (k0_t3_body (F := F) i arg1 harg1 arg2 harg2 arg3 harg3 arg4 harg4 arg5 harg5 arg6 harg6 arg7 harg7 arg8 harg8 arg9 harg9 arg10 harg10 arg11 harg11 lo hi hch hc (Scalar.divsi lo 16#32) (Scalar.cmpi .ne (Scalar.subi (Scalar.extui (Scalar.cmpi .sgt lo 0#32)) (Scalar.extui (Scalar.cmpi .slt lo 0#32)))
              (Scalar.subi (Scalar.extui (Scalar.cmpi .sgt 16#32 0#32)) (Scalar.extui (Scalar.cmpi .slt 16#32 0#32)))) (Scalar.remsi lo 16#32) 0#32)
          pure PUnit.unit)
      (fun _ => iprop((arg9.view.loc (c : Thread nD τ) ↦[arg9.view.set]{fullShare} f9) ∗ (arg10.view.loc (c : Thread nD τ) ↦[arg10.view.set]{fullShare} f10)
        ∗ (∃ f, (arg11.view.loc (c : Thread nD τ) ↦[arg11.view.set]{fullShare} f) ∗ ⌜arg11.view.read (Elt F) f
            = tenant lo hi (arg9.view.read (Elt F) f9) (arg10.view.read (Elt F) f10) (arg11.view.read (Elt F) f11)⌝))) := by
  iintro ⟨H9, H10, H11⟩
  let L2 := loop2 (F := F) 𝒱 c bd E i arg1 harg1 arg2 harg2 arg3 harg3 arg4 harg4 arg5 harg5 arg6 harg6 arg7 harg7 arg8 harg8 arg9 harg9 arg10 harg10 arg11 harg11 lo hi hch hc (Scalar.divsi lo 16#32) (Scalar.cmpi .ne (Scalar.subi (Scalar.extui (Scalar.cmpi .sgt lo 0#32)) (Scalar.extui (Scalar.cmpi .slt lo 0#32)))
              (Scalar.subi (Scalar.extui (Scalar.cmpi .sgt 16#32 0#32)) (Scalar.extui (Scalar.cmpi .slt 16#32 0#32)))) (Scalar.remsi lo 16#32) 0#32 f9 f10 f11
  sl_exec
  sl_step
  isplitl [H9]; · iexact H9
  isplitl [H10]; · iexact H10
  iexists _; isplitl [H11]; · iexact H11
  ipureintro
  have hlt := (cond2_iff _ _ hh.1 hh.2).1 hc
  rw [t3_trips' lo hi hh.1 hh.2 hlt, pb_k0_t3.eq_1, View.writes_nil, hL3]
  exact (tenant_pos _ _ hch hc _ _ _).symm

theorem t1_step (hT : WordsOK (F := F) (arg1.view.read (Elt F) T)) (k : Fin k0_t1_loop.trips) (V : Vec F S17x640x256 .i8) (I : Vec F S17x320x256 .i8) (D : Vec F S17x20x256 .bf16)
    (f9 : BufTy.Contents (Elt F) arg9.view.ty) (f10 : BufTy.Contents (Elt F) arg10.view.ty) (f11 : BufTy.Contents (Elt F) arg11.view.ty) :
    iprop((arg1.view.loc (c : Thread nD τ) ↦{fullShare.right} T) ∗ Res35 (F := F) c arg5 arg6 arg7 arg10 (harg5.unread V) (harg6.unread I) (harg7.unread D) f10
      ∗ (arg9.view.loc (c : Thread nD τ) ↦[arg9.view.set]{fullShare} f9) ∗ (arg11.view.loc (c : Thread nD τ) ↦[arg11.view.set]{fullShare} f11))
    ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 k ())
      (fun _ => iprop((arg1.view.loc (c : Thread nD τ) ↦{fullShare.right} T)
        ∗ (∃ f10', Res35 (F := F) c arg5 arg6 arg7 arg10 (harg5.unread V) (harg6.unread I) (harg7.unread D) f10')
        ∗ (arg9.view.loc (c : Thread nD τ) ↦[arg9.view.set]{fullShare} f9)
        ∗ (∃ f, (arg11.view.loc (c : Thread nD τ) ↦[arg11.view.set]{fullShare} f) ∗ ⌜arg11.view.read (Elt F) f
            = tenant (loW (arg1.view.read (Elt F) T) k) (hiW (arg1.view.read (Elt F) T) k) (arg9.view.read (Elt F) f9) (wOf k V I D) (arg11.view.read (Elt F) f11)⌝))) := by
  have hlo := hT.lo k
  have hhi := hT.hi k
  unfold k0_t1_body
  iintro ⟨H1, ⟨H5, H6, H7, H10⟩, H9, H11⟩
  sl_exec (disch := exact chk1_of_le _ _ hlo hhi)
  have e1 : t1_step.sl.r arg1 T k = loW (arg1.view.read (Elt F) T) k := rfl
  have e2 : t1_step.sl.r_1 arg1 T k = hiW (arg1.view.read (Elt F) T) k := rfl
  by_cases hc : k0_cond2 (t1_step.sl.r arg1 T k) (t1_step.sl.r_1 arg1 T k) = 1#1
  · have hlo' : (t1_step.sl.r arg1 T k).toNat ≤ 1792 := by rw [e1]; exact hlo
    have hhi' : (t1_step.sl.r_1 arg1 T k).toNat ≤ 1792 := by rw [e2]; exact hhi
    have hlt := (cond2_iff _ _ hlo' hhi').1 hc
    have h3' := t3_trips' _ _ hlo' hhi' hlt
    have hch : k0_chk1 (t1_step.sl.r arg1 T k) (t1_step.sl.r_1 arg1 T k) := chk1_of_le _ _ hlo' hhi'
    rw [dif_pos hc, wp_bind]
    iapply (wp_wand_r Idealize.ShloMosaic.frame (wpE (defs₀ (F := F)) 𝒱 (c : Thread nD τ) bd) E)
    isplitl [H5 H6 H7 H10]
    · iapply (run35 (F := F) 𝒱 c bd E i arg1 harg1 arg2 harg2 arg3 harg3 arg4 harg4 arg5 harg5 arg6 harg6 arg7 harg7 arg8 harg8 arg9 harg9 arg10 harg10 arg11 harg11 k _ _ V I D f10)
      isplitl [H5]; · iexact H5
      isplitl [H6]; · iexact H6
      isplitl [H7]; · iexact H7
      iexact H10
    · iintro %v ⟨%hv, ⟨H5, H6, H7, H10⟩⟩
      subst hv
      generalize hg : arg10.view.writes (Elt F) f10 (pcsW k V I D) = g
      have hW : arg10.view.read (Elt F) g = wOf k V I D := by rw [← hg]; exact read_pcsW _ _ _ _ _
      iapply (wp_wand_r Idealize.ShloMosaic.frame (wpE (defs₀ (F := F)) 𝒱 (c : Thread nD τ) bd) E)
      isplitl [H9 H10 H11]
      · iapply (t1_tail (F := F) 𝒱 c bd E i arg1 harg1 arg2 harg2 arg3 harg3 arg4 harg4 arg5 harg5 arg6 harg6 arg7 harg7 arg8 harg8 arg9 harg9 arg10 harg10 arg11 harg11 (t1_step.sl.r arg1 T k) (t1_step.sl.r_1 arg1 T k) hch hc ⟨hlo', hhi'⟩ f9 g f11)
        isplitl [H9]; · iexact H9
        isplitl [H10]; · iexact H10
        iexact H11
      iintro %_ ⟨H9, H10, ⟨%f, H11, %hf⟩⟩
      isplitl [H1]; · iexact H1
      isplitl [H5 H6 H7 H10]
      · iexists g
        isplitl [H5]; · iexact H5
        isplitl [H6]; · iexact H6
        isplitl [H7]; · iexact H7
        iexact H10
      isplitl [H9]; · iexact H9
      iexists _; isplitl [H11]; · iexact H11
      ipureintro
      rw [hf, hW, ← e1, ← e2]
  · rw [dif_neg hc]
    sl_exec
    sl_step
    isplitl [H1]; · iexact H1
    isplitl [H5 H6 H7 H10]
    · iexists f10
      isplitl [H5]; · iexact H5
      isplitl [H6]; · iexact H6
      isplitl [H7]; · iexact H7
      iexact H10
    isplitl [H9]; · iexact H9
    iexists _; isplitl [H11]; · iexact H11
    ipureintro
    rw [← e1, ← e2]
    exact (tenant_neg _ _ hc _ _ _).symm

set_option warn.classDefReducibility false in
/-- The tenant loop by its invariant: the operands stay, the weights' scratch is any, the accumulator is `accT`'s. -/
def loop1 (hT : WordsOK (F := F) (arg1.view.read (Elt F) T)) (V : Vec F S17x640x256 .i8) (I : Vec F S17x320x256 .i8) (D : Vec F S17x20x256 .bf16)
    (f9 : BufTy.Contents (Elt F) arg9.view.ty) (f11 : BufTy.Contents (Elt F) arg11.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 where
  inv k _ := iprop((arg1.view.loc (c : Thread nD τ) ↦{fullShare.right} T) ∗ (arg5.view.loc (c : Thread nD τ) ↦[arg5.view.set]{fullShare} harg5.unread V)
    ∗ (arg6.view.loc (c : Thread nD τ) ↦[arg6.view.set]{fullShare} harg6.unread I) ∗ (arg7.view.loc (c : Thread nD τ) ↦[arg7.view.set]{fullShare} harg7.unread D)
    ∗ (∃ f10, arg10.view.loc (c : Thread nD τ) ↦[arg10.view.set]{fullShare} f10)
    ∗ (arg9.view.loc (c : Thread nD τ) ↦[arg9.view.set]{fullShare} f9)
    ∗ (∃ f, (arg11.view.loc (c : Thread nD τ) ↦[arg11.view.set]{fullShare} f)
      ∗ ⌜arg11.view.read (Elt F) f = accT (arg1.view.read (Elt F) T) V I D (arg9.view.read (Elt F) f9) (arg11.view.read (Elt F) f11) k⌝))
  step k acc := by
    iintro ⟨H1, H5, H6, H7, ⟨%f10, H10⟩, H9, ⟨%f, H11, %hf⟩⟩
    iapply (wp_wand_r Idealize.ShloMosaic.frame (wpE (defs₀ (F := F)) 𝒱 (c : Thread nD τ) bd) E)
    isplitl [H1 H5 H6 H7 H10 H9 H11]
    · iapply (t1_step (F := F) 𝒱 c bd E i arg1 harg1 arg2 harg2 arg3 harg3 arg4 harg4 arg5 harg5 arg6 harg6 arg7 harg7 arg8 harg8 arg9 harg9 arg10 harg10 arg11 harg11 T hT k V I D f9 f10 f)
      isplitl [H1]; · iexact H1
      isplitl [H5 H6 H7 H10]
      · isplitl [H5]; · iexact H5
        isplitl [H6]; · iexact H6
        isplitl [H7]; · iexact H7
        iexact H10
      isplitl [H9]; · iexact H9
      iexact H11
    iintro %_ ⟨H1, ⟨%f10', H5, H6, H7, H10⟩, H9, ⟨%f', H11, %hf'⟩⟩
    isplitl [H1]; · iexact H1
    isplitl [H5]; · iexact H5
    isplitl [H6]; · iexact H6
    isplitl [H7]; · iexact H7
    isplitl [H10]; · iexists f10'; iexact H10
    isplitl [H9]; · iexact H9
    iexists f'; isplitl [H11]; · iexact H11
    ipureintro
    rw [hf', hf, accT_succ]

end

end Cert.Delta
-- ==== Proof.Points.lean ====
/- The schedule of the call: which windows are fetched and written back at which points, and the body as the pipeline calls it. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at the first point only, at any contents of the tables (its index map reads none). -/
theorem fetch0_0 (a : (pcfg0 (F := F)).Adm) : ∀ t : Fin (cfg0 a).N, ((cfg0 a).win 0).fetch t = true ↔ t.val % 27 = 0 :=
  (fun t => Pipeline.Window.fetchOf_const cc0_transform_0 (fun _ _ => rfl) (n := 27) (by decide) t : ∀ t : Fin grid0.N, Pipeline.Window.fetchOf grid0 false cc0_transform_0 t = true ↔ t.val % 27 = 0)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 1 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%arg3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 2 (fun _ => rfl) (by decide)) (P := 1) (by decide) t).mpr (Nat.mod_one _) : ∀ t : Fin grid0.N, Pipeline.Window.fetchOf grid0 false cc0_transform_3 t = true)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 2 (fun _ => rfl) (by decide)) (P := 1) (by decide) t).mpr (Nat.mod_one _) : ∀ t : Fin grid0.N, Pipeline.Window.fetchOf grid0 false cc0_transform_4 t = true)
/-- Window 5 (operand 6 (%arg5)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 2 (fun _ => rfl) (by decide)) (P := 1) (by decide) t).mpr (Nat.mod_one _) : ∀ t : Fin grid0.N, Pipeline.Window.fetchOf grid0 false cc0_transform_5 t = true)
/-- Window 6 (result 0 (%0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 1 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_deltazip (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

end Cert.KernelIdeal.Gen

end
-- ==== Proof.Common.lean ====
/- The host prefix, the blocks of the windows and the staging buffers of the call, shared by the runs of its body. -/
module

public import proofs.«01_k».proof.Proof.Gen.KernelIdeal.Launch
public import proofs.«01_k».proof.Proof.Gen.KernelIdeal.Skeleton
public import proofs.«01_k».proof.Proof.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s buffers when the region is entered: after the two reshapes of the host prefix. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

set_option maxHeartbeats 800000 in
/-- The program up to the region, at the variants `𝒱₀`: the host prefix, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S18 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      ((h c).2 main_arg2 (by decide : main_arg2 ∈ Pipeline.restRefs sig spec0)).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (by decide : main_arg6 ∈ Pipeline.restRefs sig spec0)).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, e0]
    word_cmp
   : ∀ t : Fin grid0.N, cond0_0 (grid0.coords t) ↔ t.val % 27 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1792x2560 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2560x256 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S17x640x256 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S17x320x256 .i8 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S17x20x256 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1792x256 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S1792x2560 .bf16 := Memref.whole cc0_scratch0
abbrev scM0_1 : Memref sig .tc .vmem S2560x256 .bf16 := Memref.whole cc0_scratch1
abbrev scM0_2 : Memref sig .tc .vmem S1792x256 .f32 := Memref.whole cc0_scratch2
/-- The scratch `arg9` the kernel carries between points, as a view: what it holds is stated through it. -/
abbrev VS0_0 : View sig .tc .vmem S1792x2560 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Body.lean ====
/- One run of the kernel body, at the first point and at the later ones, with what it leaves in the output window. -/
module

public import proofs.«01_k».proof.Proof.Loop1
public import proofs.«01_k».proof.Proof.Common

@[expose] public section

set_option maxRecDepth 16384

noncomputable section

namespace Cert.Delta

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev rectX : Rect S1792x2560 := Rect.unit (s := S1792x2560) ![0, 0] S1792x2560.size inb_S1792x2560_S1792x2560_0_0
abbrev rectB : Rect S2560x256 := Rect.unit (s := S2560x256) ![0, 0] S2560x256.size inb_S2560x256_S2560x256_0_0
abbrev rectS : Rect S1x256 := Rect.unit (s := S1x256) ![0, 0] S1x256.size inb_S1x256_S1x256_0_0
abbrev rectA : Rect S1792x256 := Rect.unit (s := S1792x256) ![0, 0] S1792x256.size inb_S1792x256_S1792x256_0_0

/-- One stripe of 256 columns of the rows, its columns brought into the kernel's order. -/
def stripe (v : Vec F S1792x256 .bf16) : Vec F S1792x256 .bf16 := k0_pay8 k0_pay6 v

/-- The ten stripes stored at the first point, last first. -/
def xpPcs (X : Vec F S1792x2560 .bf16) : List (View.Piece (Elt F) S1792x2560 .bf16) :=
  [ ⟨Rect.unit (s := S1792x2560) ![0, 2304] S1792x256.size inb_S1792x2560_S1792x256_0_2304, stripe (View.ld X (Rect.unit (s := S1792x2560) ![0, 2304] S1792x256.size inb_S1792x2560_S1792x256_0_2304))⟩,
    ⟨Rect.unit (s := S1792x2560) ![0, 2048] S1792x256.size inb_S1792x2560_S1792x256_0_2048, stripe (View.ld X (Rect.unit (s := S1792x2560) ![0, 2048] S1792x256.size inb_S1792x2560_S1792x256_0_2048))⟩,
    ⟨Rect.unit (s := S1792x2560) ![0, 1792] S1792x256.size inb_S1792x2560_S1792x256_0_1792, stripe (View.ld X (Rect.unit (s := S1792x2560) ![0, 1792] S1792x256.size inb_S1792x2560_S1792x256_0_1792))⟩,
    ⟨Rect.unit (s := S1792x2560) ![0, 1536] S1792x256.size inb_S1792x2560_S1792x256_0_1536, stripe (View.ld X (Rect.unit (s := S1792x2560) ![0, 1536] S1792x256.size inb_S1792x2560_S1792x256_0_1536))⟩,
    ⟨Rect.unit (s := S1792x2560) ![0, 1280] S1792x256.size inb_S1792x2560_S1792x256_0_1280, stripe (View.ld X (Rect.unit (s := S1792x2560) ![0, 1280] S1792x256.size inb_S1792x2560_S1792x256_0_1280))⟩,
    ⟨Rect.unit (s := S1792x2560) ![0, 1024] S1792x256.size inb_S1792x2560_S1792x256_0_1024, stripe (View.ld X (Rect.unit (s := S1792x2560) ![0, 1024] S1792x256.size inb_S1792x2560_S1792x256_0_1024))⟩,
    ⟨Rect.unit (s := S1792x2560) ![0, 768] S1792x256.size inb_S1792x2560_S1792x256_0_768, stripe (View.ld X (Rect.unit (s := S1792x2560) ![0, 768] S1792x256.size inb_S1792x2560_S1792x256_0_768))⟩,
    ⟨Rect.unit (s := S1792x2560) ![0, 512] S1792x256.size inb_S1792x2560_S1792x256_0_512, stripe (View.ld X (Rect.unit (s := S1792x2560) ![0, 512] S1792x256.size inb_S1792x2560_S1792x256_0_512))⟩,
    ⟨Rect.unit (s := S1792x2560) ![0, 256] S1792x256.size inb_S1792x2560_S1792x256_0_256, stripe (View.ld X (Rect.unit (s := S1792x2560) ![0, 256] S1792x256.size inb_S1792x2560_S1792x256_0_256))⟩,
    ⟨Rect.unit (s := S1792x2560) ![0, 0] S1792x256.size inb_S1792x2560_S1792x256_0_0, stripe (View.ld X (Rect.unit (s := S1792x2560) ![0, 0] S1792x256.size inb_S1792x2560_S1792x256_0_0))⟩ ]

/-- The rows with their columns in the kernel's order. -/
def xpOf (X : Vec F S1792x2560 .bf16) : Vec F S1792x2560 .bf16 := View.canon (xpPcs X)

/-- What the body leaves in the output window: from the table `T`, the rows `X`, the reordered rows `Xp` and the column block's operands. -/
def outV (T : Vec F S18 .i32) (X Xp : Vec F S1792x2560 .bf16) (B : Vec F S2560x256 .fp8e4m3) (S : Vec F S1x256 .f32)
    (V : Vec F S17x640x256 .i8) (I : Vec F S17x320x256 .i8) (D : Vec F S17x20x256 .bf16) : Vec F S1792x256 .bf16 :=
  k0_pay5 (accT T V I D Xp (k0_pay2 X B S) 17)

/-- The whole block's rectangle embeds every index as itself. -/
theorem emb_full {s : Shape} (off : Fin s.rank → ℕ) {inb : ∀ a, off a + s.size a ≤ s.size a} (h0 : ∀ a, off a = 0) (y : s.Idx) :
    (Rect.unit (s := s) off s.size inb).emb y = y := by
  funext a
  apply Fin.ext
  show off a + 1 * (y a).val = (y a).val
  rw [h0 a]; omega

theorem ld_full {s : Shape} {e : EltTy} (off : Fin s.rank → ℕ) {inb : ∀ a, off a + s.size a ≤ s.size a} (h0 : ∀ a, off a = 0) (X : Vec F s e) :
    View.ld X (Rect.unit (s := s) off s.size inb) = X := by
  funext y
  show X ((Rect.unit (s := s) off s.size inb).emb y) = X y
  rw [emb_full off h0]

theorem overlay_full {s : Shape} {e : EltTy} (off : Fin s.rank → ℕ) {inb : ∀ a, off a + s.size a ≤ s.size a} (h0 : ∀ a, off a = 0) (A X : Vec F s e) :
    (Rect.unit (s := s) off s.size inb).overlay A X = X := by
  funext y
  conv_lhs => rw [← emb_full (inb := inb) off h0 y]
  exact Rect.overlay_emb ..

/-- The ten stripes cover the scratch. -/
theorem cover_xpPcs (X : Vec F S1792x2560 .bf16) (y : S1792x2560.Idx) : ∃ p ∈ xpPcs (F := F) X, y ∈ p.1.set := by
  have h0 : (y 0).val < 1792 := (y 0).isLt
  have h1 : (y 1).val < 2560 := (y 1).isLt
  have key : ∀ (o : ℕ) (inb : ∀ a, (![0, o] : Fin 2 → ℕ) a + S1792x256.size a ≤ S1792x2560.size a), (y 1).val / 256 * 256 = o →
      y ∈ (Rect.unit (s := S1792x2560) ![0, o] S1792x256.size inb).set := by
    intro o inb ho
    rw [Rect.mem_set_unit]
    intro a
    fin_cases a
    · show 0 ≤ (y 0).val ∧ (y 0).val < 0 + 1792
      omega
    · show o ≤ (y 1).val ∧ (y 1).val < o + 256
      omega
  unfold xpPcs
  have hc : (y 1).val / 256 = 9 ∨ (y 1).val / 256 = 8 ∨ (y 1).val / 256 = 7 ∨ (y 1).val / 256 = 6 ∨ (y 1).val / 256 = 5
      ∨ (y 1).val / 256 = 4 ∨ (y 1).val / 256 = 3 ∨ (y 1).val / 256 = 2 ∨ (y 1).val / 256 = 1 ∨ (y 1).val / 256 = 0 := by omega
  simp only [List.exists_mem_cons_iff, List.not_mem_nil, false_and, exists_false, _root_.or_false]
  rcases hc with h | h | h | h | h | h | h | h | h | h
  · exact .inl (key _ _ (by omega))
  · exact .inr (.inl (key _ _ (by omega)))
  · exact .inr (.inr (.inl (key _ _ (by omega))))
  · exact .inr (.inr (.inr (.inl (key _ _ (by omega)))))
  · exact .inr (.inr (.inr (.inr (.inl (key _ _ (by omega))))))
  · exact .inr (.inr (.inr (.inr (.inr (.inl (key _ _ (by omega)))))))
  · exact .inr (.inr (.inr (.inr (.inr (.inr (.inl (key _ _ (by omega))))))))
  · exact .inr (.inr (.inr (.inr (.inr (.inr (.inr (.inl (key _ _ (by omega)))))))))
  · exact .inr (.inr (.inr (.inr (.inr (.inr (.inr (.inr (.inl (key _ _ (by omega))))))))))
  · exact .inr (.inr (.inr (.inr (.inr (.inr (.inr (.inr (.inr ((key _ _ (by omega)))))))))))

theorem read_xp (v : View sig .tc .vmem S1792x2560 .bf16) (f : v.ty.Contents (Elt F)) (X : Vec F S1792x2560 .bf16) :
    v.read (Elt F) (v.writes (Elt F) f (xpPcs X)) = xpOf X :=
  View.read_writes_eq_canon _ _ _ (cover_xpPcs X)

theorem read_acc (v : View sig .tc .vmem S1792x256 .f32) (f : v.ty.Contents (Elt F)) (X : Vec F S1792x2560 .bf16) (B : Vec F S2560x256 .fp8e4m3) (S : Vec F S1x256 .f32) :
    v.read (Elt F) (v.writes (Elt F) f [⟨rectA, k0_pay2 (View.ld X rectX) (View.ld B rectB) (View.ld S rectS)⟩]) = k0_pay2 X B S := by
  rw [read_writes_one, overlay_full (s := S1792x256) ![0, 0] (fun a => by fin_cases a <;> rfl)]
  exact congrArg₂ (fun a b => k0_pay2 a b.1 b.2) (ld_full (s := S1792x2560) ![0, 0] (fun a => by fin_cases a <;> rfl) X)
    (Prod.ext (ld_full (s := S2560x256) ![0, 0] (fun a => by fin_cases a <;> rfl) B) (ld_full (s := S1x256) ![0, 0] (fun a => by fin_cases a <;> rfl) S) : ((View.ld B rectB, View.ld S rectS) : _ × _) = (B, S))

set_option maxHeartbeats 1000000 in
/-- The loop over the tenants and the last store, from any contents of the two scratch buffers. -/
theorem run_tail (c : Dev nD) (i : grid0.Coords) (arg2 : Memref sig .tc .vmem S1792x2560 .bf16) (harg2 : arg2.IsWhole) (arg3 : Memref sig .tc .vmem S2560x256 .fp8e4m3) (harg3 : arg3.IsWhole) (arg4 : Memref sig .tc .vmem S1x256 .f32) (harg4 : arg4.IsWhole) (arg5 : Memref sig .tc .vmem S17x640x256 .i8) (harg5 : arg5.IsWhole) (arg6 : Memref sig .tc .vmem S17x320x256 .i8) (harg6 : arg6.IsWhole) (arg7 : Memref sig .tc .vmem S17x20x256 .bf16) (harg7 : arg7.IsWhole) (arg8 : Memref sig .tc .vmem S1792x256 .bf16) (harg8 : arg8.IsWhole) (arg9 : Memref sig .tc .vmem S1792x2560 .bf16) (harg9 : arg9.IsWhole) (arg10 : Memref sig .tc .vmem S2560x256 .bf16) (harg10 : arg10.IsWhole) (arg11 : Memref sig .tc .vmem S1792x256 .f32) (harg11 : arg11.IsWhole)
    (x3 : Vec F S17x640x256 .i8) (x4 : Vec F S17x320x256 .i8) (x5 : Vec F S17x20x256 .bf16) (xt0 : TbBuf0 (F := F) c tbM0_0) (hT : WordsOK (F := F) (tbM0_0.view.read (Elt F) xt0))
    (f8 : BufTy.Contents (Elt F) arg8.view.ty) (f9 : BufTy.Contents (Elt F) arg9.view.ty) (f10 : BufTy.Contents (Elt F) arg10.view.ty) (f11 : BufTy.Contents (Elt F) arg11.view.ty)
    (E : Set ℕ) (K : PUnit → sProp (MT nD τ sig Unit (Elt F) ℕ (UR sig nD τ) ℕ)) :
    (iprop((arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (tbM0_0.view.loc (c : Thread nD τ) ↦{fullShare.right} xt0)
        ∗ (iprop((arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (∃ f, (arg8.view.loc (c : Thread nD τ) ↦[arg8.view.set]{fullShare} f) ∗ ⌜arg8.view.read (Elt F) f = k0_pay5 (accT (tbM0_0.view.read (Elt F) xt0) x3 x4 x5 (arg9.view.read (Elt F) f9) (arg11.view.read (Elt F) f11) 17)⌝) ∗ (arg9.view.loc (c : Thread nD τ) ↦[arg9.view.set]{fullShare} f9) ∗ (∃ f, (arg10.view.loc (c : Thread nD τ) ↦[arg10.view.set]{fullShare} f)) ∗ (∃ f, (arg11.view.loc (c : Thread nD τ) ↦[arg11.view.set]{fullShare} f)) ∗ (tbM0_0.view.loc (c : Thread nD τ) ↦{fullShare.right} xt0)) -∗ K ⟨⟩)) : sProp (MT nD τ sig Unit (Elt F) ℕ (UR sig nD τ) ℕ))
      ⊢ wp frame (wpE (defs₀ (F := F)) Variants.none c none) E (do
          Scf.Loop.for k0_t1_loop k0_t1_ok ⟨⟩ (k0_t1_body i tbM0_0 htbM0_0 arg2 harg2 arg3 harg3 arg4 harg4 arg5 harg5 arg6 harg6 arg7 harg7 arg8 harg8 arg9 harg9 arg10 harg10 arg11 harg11)
          let v15 : Vec F S1792x256 .f32 ← Prog.lift (.load arg11 (Rect.unit (s := S1792x256) ![0, 0] S1792x256.size inb_S1792x256_S1792x256_0_0).toLoadRect (View.loadsAt_vmem h_S1792x256))
          let v17 : Vec F S1792x256 .bf16 ← Prog.lift (.load arg8 (Rect.unit (s := S1792x256) ![0, 0] S1792x256.size inb_S1792x256_S1792x256_0_0).toLoadRect (View.loadsAt_vmem h_S1792x256))
          Prog.lift (.store arg8 (Rect.unit (s := S1792x256) ![0, 0] S1792x256.size inb_S1792x256_S1792x256_0_0) (k0_pay5 v15) Finset.univ (View.stores_vmem h_S1792x256 (harg8.storeExact_slice rfl _ packedbf16_S1792x256_S1792x256_0_0) (fun _ => rfl)) (.inl rfl))
          pure ⟨⟩) K := by
  let L := loop1 (F := F) Variants.none c none E i tbM0_0 htbM0_0 arg2 harg2 arg3 harg3 arg4 harg4 arg5 harg5 arg6 harg6 arg7 harg7 arg8 harg8 arg9 harg9 arg10 harg10 arg11 harg11 xt0 hT x3 x4 x5 f9 f11
  iintro ⟨H3, H4, H5, H6, HS0, HS1, HS2, HT0, Hk⟩
  sl_exec
  sl_step
  iapply Hk
  isplitl [H3]; · iexact H3
  isplitl [H4]; · iexact H4
  isplitl [H5]; · iexact H5
  isplitl [H6]
  · iexists _; isplitl [H6]; · iexact H6
    ipureintro
    rw [read_writes_one, overlay_full (s := S1792x256) ![0, 0] (fun a => by fin_cases a <;> rfl)]
    refine congrArg k0_pay5 ?_
    refine Eq.trans ?_ hL7
    exact ld_full (s := S1792x256) ![0, 0] (fun a => by fin_cases a <;> rfl) _
  isplitl [HS0]; · iexact HS0
  isplitl [HS1]; · iexists _; iexact HS1
  isplitl [HS2]; · iexists _; iexact HS2
  iexact HT0

set_option maxHeartbeats 1000000 in
/-- The body at the first point. -/
theorem runA (c : Dev nD) (i : grid0.Coords) (arg2 : Memref sig .tc .vmem S1792x2560 .bf16) (harg2 : arg2.IsWhole) (arg3 : Memref sig .tc .vmem S2560x256 .fp8e4m3) (harg3 : arg3.IsWhole) (arg4 : Memref sig .tc .vmem S1x256 .f32) (harg4 : arg4.IsWhole) (arg5 : Memref sig .tc .vmem S17x640x256 .i8) (harg5 : arg5.IsWhole) (arg6 : Memref sig .tc .vmem S17x320x256 .i8) (harg6 : arg6.IsWhole) (arg7 : Memref sig .tc .vmem S17x20x256 .bf16) (harg7 : arg7.IsWhole) (arg8 : Memref sig .tc .vmem S1792x256 .bf16) (harg8 : arg8.IsWhole) (arg9 : Memref sig .tc .vmem S1792x2560 .bf16) (harg9 : arg9.IsWhole) (arg10 : Memref sig .tc .vmem S2560x256 .bf16) (harg10 : arg10.IsWhole) (arg11 : Memref sig .tc .vmem S1792x256 .f32) (harg11 : arg11.IsWhole) (hc0 : cond0_0 i)
    (x0 : Vec F S1792x2560 .bf16) (x1 : Vec F S2560x256 .fp8e4m3) (x2 : Vec F S1x256 .f32) (x3 : Vec F S17x640x256 .i8) (x4 : Vec F S17x320x256 .i8) (x5 : Vec F S17x20x256 .bf16) (xt0 : TbBuf0 (F := F) c tbM0_0) (hT : WordsOK (F := F) (tbM0_0.view.read (Elt F) xt0)) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outV (tbM0_0.view.read (Elt F) xt0) x0 (xpOf x0) x1 x2 x3 x4 x5) ∗ owns (c : Thread nD τ) arg9 fullShare (xpOf x0) ∗ (∃ d, owns (c : Thread nD τ) arg10 fullShare d) ∗ (∃ d, owns (c : Thread nD τ) arg11 fullShare d) ∗ tbPt0 c tbM0_0 xt0) -∗ K ⟨⟩))
      ⊢ wp frame (wpE (defs₀ (F := F)) Variants.none c none) E (cc0_deltazip i tbM0_0 htbM0_0 arg2 harg2 arg3 harg3 arg4 harg4 arg5 harg5 arg6 harg6 arg7 harg7 arg8 harg8 arg9 harg9 arg10 harg10 arg11 harg11) K := by
  simp only [cc0_deltazip_eq_skeleton]; unfold cc0_deltazip_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  have e2 : runA.sl.HS2_1 c arg2 harg2 arg3 harg3 arg4 harg4 x0 x1 x2 = [⟨rectA, k0_pay2 (View.ld x0 rectX) (View.ld x1 rectB) (View.ld x2 rectS)⟩] := by
    unfold runA.sl.HS2_1
    simp only [readAt_unread]
    try rfl
  have e9 : runA.sl.HS0_10 c arg2 harg2 x0 = xpPcs x0 := by
    unfold runA.sl.HS0_10 runA.sl.r runA.sl.cst_44
    simp only [readAt_unread]
    rfl
  iapply run_tail (F := F) c i arg2 harg2 arg3 harg3 arg4 harg4 arg5 harg5 arg6 harg6 arg7 harg7 arg8 harg8 arg9 harg9 arg10 harg10 arg11 harg11 x3 x4 x5 xt0 hT
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HT0]; · iexact HT0
  iintro ⟨H3, H4, H5, ⟨%f8, H6, %hf8⟩, HS0, ⟨%f10, HS1⟩, ⟨%f11, HS2⟩, HT0⟩
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    · ipureintro
      refine hf8.trans ?_
      unfold outV
      rw [e9, e2, read_xp, read_acc]; try rfl
    iexact H6
  isplitl [HS0]
  · iexists _; isplitr; swap; · iexact HS0
    ipureintro
    rw [e9]; exact read_xp _ _ _
  isplitl [HS1]
  · iexists _, _; isplitr; swap; · iexact HS1
    ipureintro; rfl
  isplitl [HS2]
  · iexists _, _; isplitr; swap; · iexact HS2
    ipureintro; rfl
  iexact HT0

set_option maxHeartbeats 1000000 in
/-- The body at a later point. -/
theorem runB (c : Dev nD) (i : grid0.Coords) (arg2 : Memref sig .tc .vmem S1792x2560 .bf16) (harg2 : arg2.IsWhole) (arg3 : Memref sig .tc .vmem S2560x256 .fp8e4m3) (harg3 : arg3.IsWhole) (arg4 : Memref sig .tc .vmem S1x256 .f32) (harg4 : arg4.IsWhole) (arg5 : Memref sig .tc .vmem S17x640x256 .i8) (harg5 : arg5.IsWhole) (arg6 : Memref sig .tc .vmem S17x320x256 .i8) (harg6 : arg6.IsWhole) (arg7 : Memref sig .tc .vmem S17x20x256 .bf16) (harg7 : arg7.IsWhole) (arg8 : Memref sig .tc .vmem S1792x256 .bf16) (harg8 : arg8.IsWhole) (arg9 : Memref sig .tc .vmem S1792x2560 .bf16) (harg9 : arg9.IsWhole) (arg10 : Memref sig .tc .vmem S2560x256 .bf16) (harg10 : arg10.IsWhole) (arg11 : Memref sig .tc .vmem S1792x256 .f32) (harg11 : arg11.IsWhole) (hc0 : ¬cond0_0 i)
    (x0 : Vec F S1792x2560 .bf16) (x1 : Vec F S2560x256 .fp8e4m3) (x2 : Vec F S1x256 .f32) (x3 : Vec F S17x640x256 .i8) (x4 : Vec F S17x320x256 .i8) (x5 : Vec F S17x20x256 .bf16) (xt0 : TbBuf0 (F := F) c tbM0_0) (hT : WordsOK (F := F) (tbM0_0.view.read (Elt F) xt0)) (xs : Vec F S1792x2560 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs ∗ (∃ d, owns (c : Thread nD τ) arg10 fullShare d) ∗ (∃ d, owns (c : Thread nD τ) arg11 fullShare d) ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outV (tbM0_0.view.read (Elt F) xt0) x0 xs x1 x2 x3 x4 x5) ∗ owns (c : Thread nD τ) arg9 fullShare xs ∗ (∃ d, owns (c : Thread nD τ) arg10 fullShare d) ∗ (∃ d, owns (c : Thread nD τ) arg11 fullShare d) ∗ tbPt0 c tbM0_0 xt0) -∗ K ⟨⟩))
      ⊢ wp frame (wpE (defs₀ (F := F)) Variants.none c none) E (cc0_deltazip i tbM0_0 htbM0_0 arg2 harg2 arg3 harg3 arg4 harg4 arg5 harg5 arg6 harg6 arg7 harg7 arg8 harg8 arg9 harg9 arg10 harg10 arg11 harg11) K := by
  simp only [cc0_deltazip_eq_skeleton]; unfold cc0_deltazip_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  have e2 : runB.sl.HS2_1 c arg2 harg2 arg3 harg3 arg4 harg4 x0 x1 x2 = [⟨rectA, k0_pay2 (View.ld x0 rectX) (View.ld x1 rectB) (View.ld x2 rectS)⟩] := by
    unfold runB.sl.HS2_1
    simp only [readAt_unread]
    try rfl
  iapply run_tail (F := F) c i arg2 harg2 arg3 harg3 arg4 harg4 arg5 harg5 arg6 harg6 arg7 harg7 arg8 harg8 arg9 harg9 arg10 harg10 arg11 harg11 x3 x4 x5 xt0 hT
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HT0]; · iexact HT0
  iintro ⟨H3, H4, H5, ⟨%f8, H6, %hf8⟩, HS0, ⟨%f10, HS1⟩, ⟨%f11, HS2⟩, HT0⟩
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    · ipureintro
      refine hf8.trans ?_
      unfold outV
      rw [hfs0, e2, read_acc]; try rfl
    iexact H6
  isplitl [HS0]
  · iexists _; isplitr; swap; · iexact HS0
    ipureintro
    exact hfs0
  isplitl [HS1]
  · iexists _, _; isplitr; swap; · iexact HS1
    ipureintro; rfl
  isplitl [HS2]
  · iexists _, _; isplitr; swap; · iexact HS2
    ipureintro; rfl
  iexact HT0

end Cert.Delta

end
-- ==== Proof.Run.lean ====
/- The launch: the proof data of the pipeline, the obligation of the kernel body at every point, and the run with what it leaves in every array. -/
module

public import proofs.«01_k».proof.Proof.Body
public import Idealize.ShloMosaic.Lib.Claim

@[expose] public section

set_option maxRecDepth 16384

noncomputable section

namespace Cert.KernelIdeal.Gen

open Cert.Delta
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What the body's reordered rows are: the rows' window is one block, the same at every point. -/
def xpAt (hO : Ok m) (c : Dev nD) : Vec F S1792x2560 .bf16 := xpOf (iblk m hO c 0 ⟨0, by rw [show (cfgM m hO).N = 27 from N_0]; omega⟩)

theorem iblk0_eq (hO : Ok m) (c : Dev nD) (t t' : Fin (cfgM m hO).N) : (iblk m hO c 0 t : Vec F S1792x2560 .bf16) = iblk m hO c 0 t' := rfl

/-- What the body leaves in the output window at point `t`. -/
def outAt (hO : Ok m) (c : Dev nD) (t : Fin (cfgM m hO).N) : Vec F S1792x256 .bf16 :=
  outV (tbM0_0.view.read (Elt F) (tbl m 0)) (iblk m hO c 0 t) (xpAt m hO c) (iblk m hO c 1 t) (iblk m hO c 2 t) (iblk m hO c 3 t) (iblk m hO c 4 t) (iblk m hO c 5 t)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare (xpAt m hO c) ∗ (∃ d, owns (c : Thread nD τ) scM0_1 fullShare d) ∗ (∃ d, owns (c : Thread nD τ) scM0_2 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare (xpAt m hO c) ∗ (∃ d, owns (c : Thread nD τ) scM0_1 fullShare d) ∗ (∃ d, owns (c : Thread nD τ) scM0_2 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare (xpAt m hO c) ∗ (∃ d, owns (c : Thread nD τ) scM0_1 fullShare d) ∗ (∃ d, owns (c : Thread nD τ) scM0_2 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => outAt m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

theorem after0_6 (hO : Ok m) (c : Dev nD) (t : Fin (cfgM m hO).N) : (dats m hO 0 c).after 6 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hT : WordsOK (F := F) (tbM0_0.view.read (Elt F) (tbl m 0))) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl,
    after0_0, after0_1, after0_2, after0_3, after0_4, after0_5, after0_6]
  rw [show (dats m hO 0 c).Φ t.succ = PhiS m hO c (t.val + 1) t.isLt from rfl, PhiS_succ, PhiT0_eq]
  have hN : t.val < 27 := lt_of_lt_of_eq t.isLt (show (cfgM m hO).N = 27 from N_0)
  by_cases h0 : t.val % 27 = 0
  · by_cases hz : t.val = 0
    · rw [PhiS_castSucc m hO c t, PhiS_zero m hO c _ _ hz, PhiT0_eq, PhiA0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply (runA (F := F) c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0) hT Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HT0]; · iexact HT0
      iintro ⟨H0, H1, H2, H3, H4, H5, H6, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · exfalso; have hN : t.val < 27 := lt_of_lt_of_eq t.isLt (show (cfgM m hO).N = 27 from N_0); omega
  · by_cases hz : t.val = 0
    · exfalso; have hN : t.val < 27 := lt_of_lt_of_eq t.isLt (show (cfgM m hO).N = 27 from N_0); omega
    · rw [PhiS_castSucc m hO c t, PhiS_pos m hO c _ _ hz, PhiT0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
      iapply (runB (F := F) c (grid0.coords t) _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) hT (xpAt m hO c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HT0]; · iexact HT0
      iintro ⟨H0, H1, H2, H3, H4, H5, H6, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hT : WordsOK (F := F) (tbM0_0.view.read (Elt F) (tbl m 0))) (c : Dev nD) : BodyObligation (dats (F := F) m hO 0 c) (defs₀ (F := F)) Variants.none () Set.univ := fun t => by
  rw [bigSep_W0, bigSep_W0, defs₀_row m hO]
  exact triple_restated (sound_body m hO hT c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexact HS1
    iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 27 := N_0; omega)

/-! ## The run and the frame -/

set_option backward.isDefEq.respectTransparency.types false in
/-- The launch: every fair run ends with the arrays at the proof data's contents, and with no signal left. -/
theorem run_main (hO : Ok m) (hT : WordsOK (F := F) (tbM0_0.view.read (Elt F) (tbl m 0))) :
    θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V := V m) (hmain := hmain m Variants.none) (hA := A_eq m hO) (hpf := V_pre m) (hin := hin m hO) (hout := hout m hO)

/-- What the output array holds at the end: its blocks written back in turn. -/
def outArr (hO : Ok m) (c : Dev nD) : Buf (Elt F) ((c : Thread nD τ).loc main_v2) := (dats m hO 0 c).arrAt 6 (cfgM m hO).N

/-- Every fair run ends with the output array at `outArr`, every argument as it was, and no signal left. -/
theorem run_val (hO : Ok m) (hT : WordsOK (F := F) (tbM0_0.view.read (Elt F) (tbl m 0))) :
    θ_run defs (onTc (τ := τ) (main (F := F))) ⟨m, fun _ => 0, ρ⟩ (fun r => (∀ c : Dev nD,
      r.2.mem ((c.tc : Thread nD τ).loc main_v2) = outArr m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => by
    have h' := h.1 c
    have hin : ∀ w : Fin (cfgM m hO).W, ((cfgM m hO).win w).isOut = false → r.2.mem (((cfgM m hO).spec w).arr.view.loc (c.tc : Thread nD τ)) = V m c (Pipeline.arrRef spec0 w) := by
      intro w hw
      refine (h'.1 w).trans (Eq.trans ?_ (A_eq m hO c w))
      exact Dat.arrAt_in _ w hw _
    exact ⟨h'.1 6, (h'.2 main_arg0 (by decide : main_arg0 ∈ Pipeline.restRefs sig spec0)).trans (V_main_arg0 m c),
      (hin 1 rfl).trans (V_main_arg1 m c),
      (h'.2 main_arg2 (by decide : main_arg2 ∈ Pipeline.restRefs sig spec0)).trans (V_main_arg2 m c),
      (hin 3 rfl).trans (V_main_arg3 m c), (hin 4 rfl).trans (V_main_arg4 m c), (hin 5 rfl).trans (V_main_arg5 m c),
      (h'.2 main_arg6 (by decide : main_arg6 ∈ Pipeline.restRefs sig spec0)).trans (V_main_arg6 m c)⟩, h.2⟩) (run_main m ρ hO hT)

end Cert.KernelIdeal.Gen

end
-- ==== Proof.Twin.lean ====
module

public import proofs.«01_k».proof.Proof.Run
public import proofs.«01_k».proof.Proof.Gen.Kernel

@[expose] public section

set_option maxRecDepth 65536

noncomputable section

namespace Cert.Delta

open Idealize.ShloMosaic Idealize.ShloMosaic.TcCoe Idealize.SL.Sem

variable {F : FTy → Type} [FloatOps F]

/-- The kernel and its idealization are one program text: the host part. -/
theorem twin_main : Cert.Kernel.main (F := F) = Cert.KernelIdeal.main (F := F) := rfl

theorem twin_cc0 : @Cert.Kernel.cc0_deltazip F _ _ = @Cert.KernelIdeal.cc0_deltazip F _ _ := by
  with_unfolding_all rfl

theorem twin_defs0 : Cert.Kernel.defs₀ (F := F) = Cert.KernelIdeal.defs₀ (F := F) := by
  unfold Cert.Kernel.defs₀ Cert.KernelIdeal.defs₀
  congr 1
  funext x p
  match x, p with
  | 0, (t, s) => show @Cert.Kernel.cc0_deltazip F _ _ _ _ _ _ _ _ _ _ _ _ _ _ _ _ _ _ _ _ _ _ _ _ _ = _; rw [twin_cc0]; rfl
  | ⟨n + 1, h⟩, _ => exact absurd h (Nat.not_lt.2 (Nat.le_add_left _ _))

theorem twin_defs : Cert.Kernel.defs (F := F) = Cert.KernelIdeal.defs (F := F) := by
  show Pipeline.defs Cert.Kernel.pcfgs Cert.Kernel.defs₀ = Pipeline.defs Cert.KernelIdeal.pcfgs Cert.KernelIdeal.defs₀
  rw [twin_defs0]; rfl

end Cert.Delta

end
-- ==== Proof.Pre.lean ====
module

public import proofs.«01_k».proof.Defs
public import proofs.«01_k».proof.Proof.Run
public import proofs.«01_k».proof.Proof.Gen.Pre_offsets_in_rows

public import Idealize.ShloMosaic.Lib.ReduceAll

@[expose] public section

noncomputable section

namespace Cert.Delta

open Idealize.ShloMosaic Idealize.ShloMosaic.Affine Idealize.ShloMosaic.IntOp Idealize.ShloMosaic.TcCoe Idealize.SL.Sem

variable {F : FTy → Type} [FloatOps F]

theorem range_word (x : BitVec 32) (e : IntOp.andi (IntOp.cmpi .sge x 0#32) (IntOp.cmpi .sle x 1792#32) = 1#1) :
    x.toNat ≤ 1792 := by
  obtain ⟨h1, h2⟩ := IntOp.andi_eq_one.1 e
  have h1 := IntOp.cmpi_sge.1 h1
  have h2 := IntOp.cmpi_sle.1 h2
  simp only [BitVec.toInt, BitVec.toNat_ofNat] at h1 h2
  omega

theorem words_of_range (a0 : FVec F _ .bf16) (a1 : FVec F _ .fp8e4m3) (a2 : FVec F _ .f32) (a3 : IVec _ 8) (a4 : IVec _ 8)
    (a5 : FVec F _ .bf16) (a6 : IVec Cert.Pre_offsets_in_rows.S18 32)
    (h : Cert.Pre_offsets_in_rows.fn (F := F) a0 a1 a2 a3 a4 a5 a6 = fun _ => 1#1) (y) : (a6 y).toNat ≤ 1792 :=
  range_word _ (congrFun h y)

end Cert.Delta

end
-- ==== Proof.Spec.lean ====
/- The decoded weight of one column as a function of its bytes, shared by the two sides of the value argument. -/
module

public import Idealize.ShloMosaic.Lib.Pointwise
public import Idealize.ShloMosaic.Lib.Affine

@[expose] public section

noncomputable section

namespace Cert.Delta

open Idealize.ShloMosaic

/-- Of a quad of four positions with its kept positions in `e`: the first kept value, the second, or nothing. -/
def pick (e a b : BitVec 4) (p : Fin 4) : BitVec 4 :=
  if e &&& 3#4 = BitVec.ofNat 4 p.val then a else if e >>> 2 = BitVec.ofNat 4 p.val then b else 0#4

/-- The half byte `h` of `b`. -/
def half (b : BitVec 8) (h : Nat) : BitVec 4 := b.extractLsb' (4 * h) 4

/-- A four-bit word with its sign, as an ideal number. -/
def nibF (x : BitVec 4) : Ideal .bf16 := FloatOps.sitofp (F := Ideal) .bf16 (x.signExtend 32)

/-- The weight at position `k` of a column: its value byte, its position byte, its group's scale. -/
def wSpec (v : Fin 640 → BitVec 8) (b : Fin 320 → BitVec 8) (s : Fin 20 → Ideal .bf16) (k : Fin 2560) : Ideal .bf16 :=
  nibF (pick (half (b ⟨k.val / 8, by omega⟩) (k.val / 4 % 2)) (half (v ⟨k.val / 4, by omega⟩) 0) (half (v ⟨k.val / 4, by omega⟩) 1)
    ⟨k.val % 4, by omega⟩) * s ⟨k.val / 128, by omega⟩

/-- The kept positions of a quad: the first is not the last place, the second not the first, and they differ, or both
    are the first place. -/
def QuadOK (e : BitVec 4) : Prop := (e &&& 3#4 ≠ 3#4 ∧ e >>> 2 ≠ 0#4 ∧ e &&& 3#4 ≠ e >>> 2) ∨ e = 0#4

instance (e : BitVec 4) : Decidable (QuadOK e) := inferInstanceAs (Decidable (_ ∨ _))

theorem lo_decode : ∀ v : BitVec 8, Scalar.select (IntOp.cmpi .sge (IntOp.andi (BitVec.setWidth 32 v) 15#32) 8#32)
    (IntOp.subi (IntOp.andi (BitVec.setWidth 32 v) 15#32) 16#32) (IntOp.andi (BitVec.setWidth 32 v) 15#32) = (half v 0).signExtend 32 := by
  decide +kernel

theorem hi_decode : ∀ v : BitVec 8, Scalar.select (IntOp.cmpi .sge (IntOp.shrsi .host (BitVec.setWidth 32 v) 4#32) 8#32)
    (IntOp.subi (IntOp.shrsi .host (BitVec.setWidth 32 v) 4#32) 16#32) (IntOp.shrsi .host (BitVec.setWidth 32 v) 4#32) = (half v 1).signExtend 32 := by
  decide +kernel

theorem idx0_lo : ∀ b : BitVec 8, IntOp.andi (BitVec.setWidth 32 b) 3#32 = (half b 0 &&& 3#4).setWidth 32 := by decide +kernel
theorem idx0_hi : ∀ b : BitVec 8, IntOp.andi (IntOp.shrsi .host (BitVec.setWidth 32 b) 4#32) 3#32 = (half b 1 &&& 3#4).setWidth 32 := by decide +kernel
theorem idx1_lo : ∀ b : BitVec 8, IntOp.andi (IntOp.shrsi .host (BitVec.setWidth 32 b) 2#32) 3#32 = (half b 0 >>> 2).setWidth 32 := by decide +kernel
theorem idx1_hi : ∀ b : BitVec 8, IntOp.andi (IntOp.shrsi .host (BitVec.setWidth 32 b) 6#32) 3#32 = (half b 1 >>> 2).setWidth 32 := by decide +kernel

theorem eq_decode : ∀ (e : BitVec 4) (p : Fin 4), IntOp.cmpi .eq (e.setWidth 32) (BitVec.ofNat 32 p.val) = if e = BitVec.ofNat 4 p.val then 1#1 else 0#1 := by
  decide +kernel

theorem nibF_zero : nibF 0#4 = 0 := by
  show ((((0#4).signExtend 32).toInt : ℝ) : EReal) = 0
  simp

theorem select_decode (e a b : BitVec 4) (p : Fin 4) :
    Scalar.select (IntOp.cmpi .eq ((e &&& 3#4).setWidth 32) (BitVec.ofNat 32 p.val)) (nibF a)
      (Scalar.select (IntOp.cmpi .eq ((e >>> 2).setWidth 32) (BitVec.ofNat 32 p.val)) (nibF b) (0 : Ideal .bf16)) = nibF (pick e a b p) := by
  rw [eq_decode, eq_decode]
  unfold pick
  split
  · rfl
  · split
    · rfl
    · exact nibF_zero.symm

/-- A row lies in a segment, read in 32-bit words and in naturals. -/
theorem in_range (r : Nat) (hr : r < 1792) (lo hi : BitVec 32) (h : lo.toNat ≤ 1792) (h' : hi.toNat ≤ 1792) :
    IntOp.andi (IntOp.cmpi .sge (BitVec.ofNat 32 r) lo) (IntOp.cmpi .slt (BitVec.ofNat 32 r) hi)
      = if lo.toNat ≤ r ∧ r < hi.toNat then 1#1 else 0#1 := by
  have e1 : (BitVec.ofNat 32 r).toInt = r := by
    rw [BitVec.toInt_eq_toNat_of_lt] <;> simp <;> omega
  have e2 : lo.toInt = lo.toNat := BitVec.toInt_eq_toNat_of_lt (by omega)
  have e3 : hi.toInt = hi.toNat := BitVec.toInt_eq_toNat_of_lt (by omega)
  split
  · rename_i hc
    exact IntOp.andi_eq_one.2 ⟨IntOp.cmpi_sge.2 (by rw [e1, e2]; omega), IntOp.cmpi_slt.2 (by rw [e1, e3]; omega)⟩
  · rename_i hc
    have hn : ¬ IntOp.andi (IntOp.cmpi .sge (BitVec.ofNat 32 r) lo) (IntOp.cmpi .slt (BitVec.ofNat 32 r) hi) = 1#1 := fun hh => by
      have := IntOp.cmpi_sge.1 (IntOp.andi_eq_one.1 hh).1
      have := IntOp.cmpi_slt.1 (IntOp.andi_eq_one.1 hh).2
      rw [e1] at *
      omega
    revert hn
    generalize IntOp.andi (IntOp.cmpi .sge (BitVec.ofNat 32 r) lo) (IntOp.cmpi .slt (BitVec.ofNat 32 r) hi) = w
    revert w
    decide

theorem select_ite {α : Type} (c : Prop) [Decidable c] (a b : α) : Scalar.select (if c then 1#1 else 0#1) a b = if c then a else b := by
  split <;> rfl

/-- Where row `K` of the kernel's weight tile comes from. -/
def perm (K : Fin 2560) : Fin 2560 := ⟨256 * (K.val / 256) + 4 * (K.val % 64) + K.val % 256 / 64, by omega⟩

theorem perm_bijective : Function.Bijective perm := by
  refine Function.Injective.bijective_of_finite fun a b h => ?_
  have h' : 256 * (a.val / 256) + 4 * (a.val % 64) + a.val % 256 / 64 = 256 * (b.val / 256) + 4 * (b.val % 64) + b.val % 256 / 64 := congrArg Fin.val h
  have d (n : Nat) : n = 256 * (n / 256) + 64 * (n % 256 / 64) + n % 64 := by omega
  have a1 : a.val % 256 / 64 < 4 := by omega
  have b1 : b.val % 256 / 64 < 4 := by omega
  have a2 : a.val % 64 < 64 := by omega
  have b2 : b.val % 64 < 64 := by omega
  apply Fin.ext
  rw [d a.val, d b.val]
  revert h' a1 b1 a2 b2
  generalize a.val / 256 = x0
  generalize b.val / 256 = y0
  generalize a.val % 256 / 64 = x1
  generalize b.val % 256 / 64 = y1
  generalize a.val % 64 = x2
  generalize b.val % 64 = y2
  omega

/-- What the second precondition says of one byte of kept positions. -/
def PairOK (v : BitVec 32) : Prop :=
  (v &&& 3#32 ≠ 3#32 ∧ (v.sshiftRight 2) &&& 3#32 ≠ 0#32 ∧ v &&& 3#32 ≠ (v.sshiftRight 2) &&& 3#32) ∨ v &&& 15#32 = 0#32

instance (v : BitVec 32) : Decidable (PairOK v) := inferInstanceAs (Decidable (_ ∨ _))

/-- What a byte that meets the second precondition says of each of its halves. -/
theorem quadOK_of : ∀ b : BitVec 8, PairOK (BitVec.setWidth 32 b) → QuadOK (half b 0) := by decide +kernel

theorem quadOK_of' : ∀ b : BitVec 8, PairOK ((BitVec.setWidth 32 b).sshiftRight 4) → QuadOK (half b 1) := by decide +kernel

end Cert.Delta

end
-- ==== Proof.PreKept.lean ====
module

public import proofs.«01_k».proof.Defs
public import proofs.«01_k».proof.Proof.Run
public import proofs.«01_k».proof.Proof.Pre
public import proofs.«01_k».proof.Proof.Spec
public import proofs.«01_k».proof.Proof.Gen.Pre_kept_pairs

public import Idealize.ShloMosaic.Lib.ReduceAll

@[expose] public section

noncomputable section

namespace Cert.Delta

open Idealize.ShloMosaic Idealize.ShloMosaic.Affine Idealize.ShloMosaic.IntOp Idealize.ShloMosaic.TcCoe Idealize.SL.Sem

variable {F : FTy → Type} [FloatOps F]

theorem pairs_of_kept (a0 : FVec F _ .bf16) (a1 : FVec F _ .fp8e4m3) (a2 : FVec F _ .f32) (a3 : IVec _ 8) (a4 : IVec _ 8)
    (a5 : FVec F _ .bf16) (a6 : IVec Cert.Pre_kept_pairs.S18 32)
    (h : Cert.Pre_kept_pairs.fn (F := F) a0 a1 a2 a3 a4 a5 a6 = fun _ => 1#1) :
    (∀ y, (a6 y).toNat ≤ 1792) ∧ ∀ y, PairOK ((a4 y).setWidth 32) ∧ PairOK (((a4 y).setWidth 32).sshiftRight 4) := by
  have e := congrFun h (fun i => i.elim0)
  have e' := IntOp.andi_eq_one.1 e
  have s1 : Subsingleton Cert.Pre_kept_pairs.S_.Idx := ⟨fun a b => funext fun i => i.elim0⟩
  refine ⟨fun y => range_word _ (Host.reduce_andi_all _ _ _ _ _ e'.2 y), fun y => ?_⟩
  have q := Host.reduce_andi_all _ _ _ _ _ e'.1 y
  have q' := IntOp.andi_eq_one.1 q
  have ne : ∀ a b : BitVec 32, IntOp.cmpi .ne a b = 1#1 → a ≠ b := by
    intro a b h hab
    subst hab
    simp [IntOp.cmpi] at h
  have eq : ∀ a b : BitVec 32, IntOp.cmpi .eq a b = 1#1 → a = b := by
    intro a b h
    by_contra hab
    have e : (a == b) = false := beq_eq_false_iff_ne.2 hab
    have h' : BitVec.ofBool (a == b) = 1#1 := h
    rw [e] at h'
    exact absurd h' (by decide)
  have or1 : ∀ a b : BitVec 1, IntOp.ori a b = 1#1 → a = 1#1 ∨ b = 1#1 := by decide
  have pair : ∀ v x : BitVec 32, ∀ o : BitVec 1, IntOp.ori o (IntOp.cmpi .eq (IntOp.andi v 15#32) 0#32) = 1#1 →
      o = IntOp.andi (IntOp.andi (IntOp.cmpi .ne (IntOp.andi v 3#32) 3#32) (IntOp.cmpi .ne (IntOp.andi x 3#32) 0#32))
        (IntOp.cmpi .ne (IntOp.andi v 3#32) (IntOp.andi x 3#32)) → x = v.sshiftRight 2 → PairOK v := by
    intro v x o h ho hx
    subst hx ho
    rcases or1 _ _ h with h | h
    · have q1 := IntOp.andi_eq_one.1 h
      have q2 := IntOp.andi_eq_one.1 q1.1
      exact .inl ⟨ne _ _ q2.1, ne _ _ q2.2, ne _ _ q1.2⟩
    · exact .inr (eq _ _ h)
  exact ⟨pair _ _ _ q'.1 rfl rfl, pair _ _ _ q'.2 rfl rfl⟩

end Cert.Delta

end
-- ==== Proof.Acc.lean ====
/- The accumulator after the tenants' row blocks, element by element, over the ideal numbers. -/
module

public import proofs.«01_k».proof.Proof.Loop1
public import proofs.«01_k».proof.Proof.Spec

@[expose] public section

set_option maxRecDepth 8192

noncomputable section

namespace Cert.Delta

open Cert.KernelIdeal Cert.KernelIdeal.Gen
open Idealize.ShloMosaic Idealize.ShloMosaic.TcCoe

/-- Where a unit rectangle of a matrix puts a coordinate. -/
theorem emb_ix2 {n0 n1 m0 m1 : ℕ} (off : Fin 2 → ℕ) (inb : ∀ a, off a + (![m0, m1] : Fin 2 → ℕ) a ≤ (![n0, n1] : Fin 2 → ℕ) a) (a : Fin m0) (b : Fin m1)
    (a' : Fin n0) (b' : Fin n1) (h0 : off 0 + a.val = a'.val) (h1 : off 1 + b.val = b'.val) :
    (Rect.unit (s := ⟨2, ![n0, n1]⟩) off ![m0, m1] inb).emb (ix2 a b) = ix2 a' b' := by
  funext i
  match i with
  | ⟨0, _⟩ => apply Fin.ext; exact (show off 0 + 1 * a.val = a'.val by omega)
  | ⟨1, _⟩ => apply Fin.ext; exact (show off 1 + 1 * b.val = b'.val by omega)

/-- A matrix written over a rectangle of rows. -/
theorem overlay_ix2 {n0 n1 m0 : ℕ} {α : Type} (off : Fin 2 → ℕ) (inb : ∀ a, off a + (![m0, n1] : Fin 2 → ℕ) a ≤ (![n0, n1] : Fin 2 → ℕ) a)
    (A : (⟨2, ![n0, n1]⟩ : Shape).Idx → α) (P : (⟨2, ![m0, n1]⟩ : Shape).Idx → α) (o : ℕ) (h0 : off 0 = o) (h1 : off 1 = 0) (r : Fin n0) (n : Fin n1) :
    (Rect.unit (s := ⟨2, ![n0, n1]⟩) off ![m0, n1] inb).overlay A P (ix2 r n)
      = if h : o ≤ r.val ∧ r.val < o + m0 then P (ix2 ⟨r.val - o, by omega⟩ n) else A (ix2 r n) := by
  by_cases h : o ≤ r.val ∧ r.val < o + m0
  · rw [dif_pos h, ← emb_ix2 off inb ⟨r.val - o, by omega⟩ n r n (by show off 0 + (r.val - o) = r.val; omega) (by omega)]
    exact Rect.overlay_emb _ _ _ _
  · rw [dif_neg h, Rect.overlay_of_not_mem]
    rw [Rect.mem_set_unit]
    intro hc
    have h2 : off 0 ≤ r.val ∧ r.val < off 0 + m0 := hc 0
    rw [h0] at h2
    exact h h2

theorem merge (a b c : Prop) [Decidable a] [Decidable b] [Decidable c] (h : c ↔ a ∨ b) (h' : ¬ (a ∧ b)) (v : EReal) :
    (if a then v else 0) + (if b then v else 0) = if c then v else 0 := by
  by_cases ha : a
  · rw [if_pos ha, if_neg (fun hb => h' ⟨ha, hb⟩), if_pos (h.2 (Or.inl ha)), add_zero]
  · by_cases hb : b
    · rw [if_neg ha, if_pos hb, if_pos (h.2 (Or.inr hb)), zero_add]
    · rw [if_neg ha, if_neg hb, if_neg (fun hc => (h.1 hc).elim ha hb), zero_add]

variable (lo hi : BitVec 32) (hlo : lo.toNat ≤ 1792) (hhi : hi.toNat ≤ 1792)

theorem maxW_nat : ∀ (n m : ℕ), n ≤ 1792 → m < 4096 → Scalar.maxsi (BitVec.ofNat 32 n) (BitVec.ofNat 32 m) = BitVec.ofNat 32 (max n m) := by
  intro n m hn hm
  have e1 := toInt_small ⟨n, by omega⟩
  have e2 := toInt_small ⟨m, hm⟩
  simp only [Scalar.maxsi, IntOp.maxsi, BitVec.slt, BitVec.sle]
  simp only [e1, e2] at *
  by_cases h : n < m
  · simp [h, Nat.max_eq_right h.le]
    try omega
  · simp [h, Nat.max_eq_left (not_lt.1 h)]
    try (intro h'; have e : m = n := by omega
         rw [e])

/-- What one block's step stores at a local row. -/
theorem pay3_val (hlo : lo.toNat ≤ 1792) (hhi : hi.toNat ≤ 1792) (hlt : lo.toNat < hi.toNat) (k : Fin (k0_t2_loop lo hi).trips)
    (X : FVec Ideal S128x2560 .bf16) (W : FVec Ideal S2560x256 .bf16) (A : FVec Ideal S128x256 .f32) (r : Fin 128) (n : Fin 256) :
    k0_pay3 (F := Ideal) lo hi (Scalar.divsi lo 16#32) (Scalar.cmpi .ne (Scalar.subi (Scalar.extui (Scalar.cmpi .sgt lo 0#32)) (Scalar.extui (Scalar.cmpi .slt lo 0#32)))
      (Scalar.subi (Scalar.extui (Scalar.cmpi .sgt 16#32 0#32)) (Scalar.extui (Scalar.cmpi .slt 16#32 0#32)))) (Scalar.remsi lo 16#32) 0#32 k X W A (ix2 r n)
      = (A (ix2 r n) : EReal) + if max lo.toNat (lo.toNat / 16 * 16 + k.val * 128) ≤ row0 lo k.val + r.val ∧ row0 lo k.val + r.val < hi.toNat then
          ∑ x : Fin 2560, (X (ix2 r x) : EReal) * W (ix2 x n) else 0 := by
  have hk : k.val < 16 := by
    have := lt_of_lt_of_eq k.isLt (t2_trips lo hi hlo hhi hlt); have := nblk_lt lo hi hhi; omega
  have e1 : Scalar.minsi (Scalar.addi (baseW lo) (Scalar.muli (Scf.iv 0#32 1#32 k.val) 128#32)) 1664#32 = BitVec.ofNat 32 (row0 lo k.val) := mult1_eq lo hi hlo hhi hlt k
  have e2 : Scalar.maxsi lo (Scalar.addi (baseW lo) (Scalar.muli (Scf.iv 0#32 1#32 k.val) 128#32)) = BitVec.ofNat 32 (max lo.toNat (lo.toNat / 16 * 16 + k.val * 128)) := by
    rw [pos_eq lo hlo k.val hk]
    have := maxW_nat lo.toNat (lo.toNat / 16 * 16 + k.val * 128) hlo (by omega)
    rwa [BitVec.ofNat_toNat, BitVec.setWidth_eq] at this
  have hr0 : row0 lo k.val ≤ 1664 := by unfold row0; omega
  have e3 : IntOp.addi (BitVec.ofNat 32 (row0 lo k.val)) (BitVec.ofNat 32 r.val) = BitVec.ofNat 32 (row0 lo k.val + r.val) := by
    simp [IntOp.addi, BitVec.ofNat_add]
  have e : k0_pay3 (F := Ideal) lo hi (Scalar.divsi lo 16#32) (Scalar.cmpi .ne (Scalar.subi (Scalar.extui (Scalar.cmpi .sgt lo 0#32)) (Scalar.extui (Scalar.cmpi .slt lo 0#32)))
      (Scalar.subi (Scalar.extui (Scalar.cmpi .sgt 16#32 0#32)) (Scalar.extui (Scalar.cmpi .slt 16#32 0#32)))) (Scalar.remsi lo 16#32) 0#32 k X W A (ix2 r n)
      = (A (ix2 r n) : EReal) + Scalar.select (IntOp.andi
          (IntOp.cmpi .sge (IntOp.addi (Scalar.minsi (Scalar.addi (baseW lo) (Scalar.muli (Scf.iv 0#32 1#32 k.val) 128#32)) 1664#32) (BitVec.ofNat 32 r.val)) (Scalar.maxsi lo (Scalar.addi (baseW lo) (Scalar.muli (Scf.iv 0#32 1#32 k.val) 128#32))))
          (IntOp.cmpi .slt (IntOp.addi (Scalar.minsi (Scalar.addi (baseW lo) (Scalar.muli (Scf.iv 0#32 1#32 k.val) 128#32)) 1664#32) (BitVec.ofNat 32 r.val)) hi))
          (∑ x : Fin 2560, (X (ix2 r x) : EReal) * W (ix2 x n)) 0 := by
    pointwise [k0_pay3]
    rfl
  rw [e, e1, e2, e3]
  by_cases hb : max lo.toNat (lo.toNat / 16 * 16 + k.val * 128) ≤ 1792
  · have hm : (BitVec.ofNat 32 (max lo.toNat (lo.toNat / 16 * 16 + k.val * 128))).toNat = max lo.toNat (lo.toNat / 16 * 16 + k.val * 128) := by
      rw [BitVec.toNat_ofNat]; exact Nat.mod_eq_of_lt (by omega)
    rw [in_range _ (by omega) _ _ (by rw [hm]; exact hb) hhi, hm, select_ite]
  · exfalso
    have := lt_of_lt_of_eq k.isLt (t2_trips lo hi hlo hhi hlt)
    unfold nblk at this
    omega

section
variable (X : Vec Ideal S1792x2560 .bf16) (W : Vec Ideal S2560x256 .bf16) (A : Vec Ideal S1792x256 .f32)

/-- One row of x times one column of a tenant's weights. -/
def rowDot (r : Fin 1792) (n : Fin 256) : EReal := ∑ x : Fin 2560, (X (ix2 r x) : EReal) * W (ix2 x n)

theorem blkAt_at (hlt : lo.toNat < hi.toNat) (hlo : lo.toNat ≤ 1792) (hhi : hi.toNat ≤ 1792) (h1 : k0_chk1 lo hi) (h2 : k0_cond2 lo hi = 1#1) (r : Fin 1792) (n : Fin 256)
    (k : Fin (k0_t2_loop lo hi).trips) :
    blkAt (F := Ideal) lo hi h1 h2 (Scalar.divsi lo 16#32) (Scalar.cmpi .ne (Scalar.subi (Scalar.extui (Scalar.cmpi .sgt lo 0#32)) (Scalar.extui (Scalar.cmpi .slt lo 0#32)))
      (Scalar.subi (Scalar.extui (Scalar.cmpi .sgt 16#32 0#32)) (Scalar.extui (Scalar.cmpi .slt 16#32 0#32)))) (Scalar.remsi lo 16#32) 0#32 X W k A (ix2 r n)
      = if row0 lo k.val ≤ r.val ∧ r.val < row0 lo k.val + 128 then (A (ix2 r n) : EReal) + (if max lo.toNat (lo.toNat / 16 * 16 + k.val * 128) ≤ r.val ∧ r.val < hi.toNat then rowDot X W r n else 0)
        else (A (ix2 r n) : EReal) := by
  have hoff := off44_eq lo hi hlo hhi hlt k
  have hoff3 := off43_eq lo hi hlo hhi hlt k
  have a0 : k0_off44 lo hi k 0 = row0 lo k.val := congrFun hoff 0
  have a1 : k0_off44 lo hi k 1 = 0 := congrFun hoff 1
  have b0 : k0_off43 lo hi k 0 = row0 lo k.val := congrFun hoff3 0
  have b1 : k0_off43 lo hi k 1 = 0 := congrFun hoff3 1
  unfold blkAt
  refine (overlay_ix2 (n0 := 1792) (n1 := 256) (m0 := 128) (k0_off44 lo hi k) _ A _ (row0 lo k.val) a0 a1 r n).trans ?_
  by_cases h : row0 lo k.val ≤ r.val ∧ r.val < row0 lo k.val + 128
  · rw [dif_pos h, if_pos h]
    have hr : r.val - row0 lo k.val < 128 := by omega
    rw [pay3_val lo hi hlo hhi hlt k]
    have e0 : row0 lo k.val + (⟨r.val - row0 lo k.val, hr⟩ : Fin 128).val = r.val := by show row0 lo k.val + (r.val - row0 lo k.val) = r.val; omega
    rw [e0]
    have eA : View.ld A (rect44 (F := Ideal) lo hi h1 h2 k) (ix2 ⟨r.val - row0 lo k.val, hr⟩ n) = A (ix2 r n) :=
      congrArg A (emb_ix2 (n0 := 1792) (n1 := 256) (m0 := 128) (m1 := 256) (k0_off44 lo hi k) _ _ _ r n (by rw [a0]; exact e0) (by rw [a1]; exact Nat.zero_add _))
    have eX (x : Fin 2560) : View.ld X (rect43 (F := Ideal) lo hi h1 h2 k) (ix2 ⟨r.val - row0 lo k.val, hr⟩ x) = X (ix2 r x) :=
      congrArg X (emb_ix2 (n0 := 1792) (n1 := 2560) (m0 := 128) (m1 := 2560) (k0_off43 lo hi k) _ _ _ r x (by rw [b0]; exact e0) (by rw [b1]; exact Nat.zero_add _))
    have eW (x : Fin 2560) : View.ld W rectW (ix2 x n) = W (ix2 x n) :=
      congrArg W (emb_ix2 (n0 := 2560) (n1 := 256) (m0 := 2560) (m1 := 256) ![0, 0] _ _ _ x n (Nat.zero_add _) (Nat.zero_add _))
    refine congrArg₂ (fun u v : EReal => u + v) eA ?_
    refine if_congr Iff.rfl ?_ rfl
    exact Finset.sum_congr rfl fun x _ => congrArg₂ (fun u v : EReal => u * v) (eX x) (eW x)
  · rw [dif_neg h, if_neg h]

theorem accB_at (hlt : lo.toNat < hi.toNat) (hlo : lo.toNat ≤ 1792) (hhi : hi.toNat ≤ 1792) (h1 : k0_chk1 lo hi) (h2 : k0_cond2 lo hi = 1#1) (r : Fin 1792) (n : Fin 256) (k : ℕ) (hk : k ≤ (k0_t2_loop lo hi).trips) :
    accB (F := Ideal) lo hi h1 h2 (Scalar.divsi lo 16#32) (Scalar.cmpi .ne (Scalar.subi (Scalar.extui (Scalar.cmpi .sgt lo 0#32)) (Scalar.extui (Scalar.cmpi .slt lo 0#32)))
      (Scalar.subi (Scalar.extui (Scalar.cmpi .sgt 16#32 0#32)) (Scalar.extui (Scalar.cmpi .slt 16#32 0#32)))) (Scalar.remsi lo 16#32) 0#32 X W A k (ix2 r n)
      = (A (ix2 r n) : EReal) + if lo.toNat ≤ r.val ∧ r.val < hi.toNat ∧ r.val < lo.toNat / 16 * 16 + k * 128 then rowDot X W r n else 0 := by
  induction k with
  | zero =>
    rw [if_neg (by omega), add_zero]; rfl
  | succ k ih =>
    have hk' : k < (k0_t2_loop lo hi).trips := hk
    have hb := t2_trips lo hi hlo hhi hlt
    have hrow : row0 lo k = min (lo.toNat / 16 * 16 + k * 128) 1664 := rfl
    have hr := r.isLt
    refine (congrFun (accB_succ lo hi h1 h2 _ _ _ _ X W A ⟨k, hk'⟩) (ix2 r n)).trans ?_
    refine (blkAt_at lo hi X W _ hlt hlo hhi h1 h2 r n ⟨k, hk'⟩).trans ?_
    rw [ih (le_of_lt hk)]
    by_cases hm : row0 lo k ≤ r.val ∧ r.val < row0 lo k + 128
    · rw [if_pos hm, add_assoc]
      refine congrArg (fun v : EReal => (A (ix2 r n) : EReal) + v) (merge _ _ _ ?_ ?_ _)
      · dsimp only
        omega
      · dsimp only
        omega
    · rw [if_neg hm]
      refine congrArg (fun v : EReal => (A (ix2 r n) : EReal) + v) (if_congr ?_ rfl rfl)
      have hb' : k + 1 ≤ nblk lo hi := by omega
      unfold nblk at hb'
      omega

/-- A tenant adds its product on its rows. -/
theorem tenant_at (hlo : lo.toNat ≤ 1792) (hhi : hi.toNat ≤ 1792) (r : Fin 1792) (n : Fin 256) :
    tenant lo hi X W A (ix2 r n) = (A (ix2 r n) : EReal) + if lo.toNat ≤ r.val ∧ r.val < hi.toNat then rowDot X W r n else 0 := by
  by_cases hlt : lo.toNat < hi.toNat
  · have h2 := (cond2_iff lo hi hlo hhi).2 hlt
    have h1 := chk1_of_le lo hi hlo hhi
    rw [tenant_pos lo hi h1 h2]
    have e : Scf.trips (k0_t2_loop lo hi).lb (k0_t2_loop lo hi).ub (k0_t2_loop lo hi).st = nblk lo hi := t2_trips lo hi hlo hhi hlt
    rw [e, accB_at lo hi X W A hlt hlo hhi h1 h2 r n _ (le_of_eq (t2_trips lo hi hlo hhi hlt).symm)]
    congr 1
    refine if_congr ?_ rfl rfl
    unfold nblk
    omega
  · rw [tenant_neg lo hi (fun h => hlt ((cond2_iff lo hi hlo hhi).1 h)), if_neg (by omega), add_zero]

end

end Cert.Delta

end
-- ==== Proof.Nib.lean ====
/- Words of eight four-bit fields: packing, masks and selection, field by field. -/
module

public import proofs.«01_k».proof.Proof.Spec

@[expose] public section

noncomputable section

namespace Cert.Delta

open Idealize.ShloMosaic

/-- Field `k` of a word. -/
def nib (w : BitVec 32) (k : Fin 8) : BitVec 4 := w.extractLsb' (4 * k.val) 4

theorem nib_getLsbD (w : BitVec 32) (k : Fin 8) (i : Nat) (hi : i < 4) : (nib w k).getLsbD i = w.getLsbD (4 * k.val + i) := by
  simp [nib, BitVec.getLsbD_extractLsb', hi]

theorem nib_and (a b : BitVec 32) (k : Fin 8) : nib (IntOp.andi a b) k = nib a k &&& nib b k := by
  apply BitVec.eq_of_getLsbD_eq; intro i hi
  simp only [nib_getLsbD _ _ _ hi, IntOp.andi, BitVec.getLsbD_and]

theorem nib_or (a b : BitVec 32) (k : Fin 8) : nib (IntOp.ori a b) k = nib a k ||| nib b k := by
  apply BitVec.eq_of_getLsbD_eq; intro i hi
  simp only [nib_getLsbD _ _ _ hi, IntOp.ori, BitVec.getLsbD_or]

theorem nib_xor (a b : BitVec 32) (k : Fin 8) : nib (IntOp.xori a b) k = nib a k ^^^ nib b k := by
  apply BitVec.eq_of_getLsbD_eq; intro i hi
  simp only [nib_getLsbD _ _ _ hi, IntOp.xori, BitVec.getLsbD_xor]

theorem nib_ones : ∀ k : Fin 8, nib 4294967295#32 k = 15#4 := by decide
theorem nib_low : ∀ k : Fin 8, nib 286331153#32 k = 1#4 := by decide

theorem nib_toNat (w : BitVec 32) (k : Fin 8) : (nib w k).toNat = w.toNat / 2 ^ (4 * k.val) % 16 := by
  simp [nib, BitVec.extractLsb'_toNat, Nat.shiftRight_eq_div_pow]

/-- A word whose value is a sum of eight digits has those digits as its fields. -/
theorem nib_of_sum (w : BitVec 32) (f : Fin 8 → Nat) (hf : ∀ k, f k < 16)
    (h : w.toNat = f 0 + f 1 * 16 + f 2 * 256 + f 3 * 4096 + f 4 * 65536 + f 5 * 1048576 + f 6 * 16777216 + f 7 * 268435456) (k : Fin 8) :
    (nib w k).toNat = f k := by
  rw [nib_toNat, h]
  have h0 := hf 0; have h1 := hf 1; have h2 := hf 2; have h3 := hf 3; have h4 := hf 4; have h5 := hf 5; have h6 := hf 6; have h7 := hf 7
  revert h0 h1 h2 h3 h4 h5 h6 h7
  generalize e0 : f 0 = a0; generalize e1 : f 1 = a1; generalize e2 : f 2 = a2; generalize e3 : f 3 = a3
  generalize e4 : f 4 = a4; generalize e5 : f 5 = a5; generalize e6 : f 6 = a6; generalize e7 : f 7 = a7
  intros
  fin_cases k
  · show _ / 1 % 16 = f 0; omega
  · show _ / 16 % 16 = f 1; omega
  · show _ / 256 % 16 = f 2; omega
  · show _ / 4096 % 16 = f 3; omega
  · show _ / 65536 % 16 = f 4; omega
  · show _ / 1048576 % 16 = f 5; omega
  · show _ / 16777216 % 16 = f 6; omega
  · show _ / 268435456 % 16 = f 7; omega

theorem sum_of_nib (w : BitVec 32) : w.toNat = (nib w 0).toNat + (nib w 1).toNat * 16 + (nib w 2).toNat * 256 + (nib w 3).toNat * 4096
    + (nib w 4).toNat * 65536 + (nib w 5).toNat * 1048576 + (nib w 6).toNat * 16777216 + (nib w 7).toNat * 268435456 := by
  have := w.isLt
  simp only [nib_toNat]
  show w.toNat = w.toNat / 1 % 16 + w.toNat / 16 % 16 * 16 + w.toNat / 256 % 16 * 256 + w.toNat / 4096 % 16 * 4096 + w.toNat / 65536 % 16 * 65536
    + w.toNat / 1048576 % 16 * 1048576 + w.toNat / 16777216 % 16 * 16777216 + w.toNat / 268435456 % 16 * 268435456
  omega

/-- Of a word of fields 0 or 1, sixteen times it less itself has the fields 0 or 15. -/
theorem nib_mask (x : BitVec 32) (hx : ∀ k, (nib x k).toNat ≤ 1) (k : Fin 8) :
    nib (IntOp.subi (IntOp.shli .vector x 4#32) x) k = if nib x k = 1#4 then 15#4 else 0#4 := by
  have hs := sum_of_nib x
  have h0 := hx 0; have h1 := hx 1; have h2 := hx 2; have h3 := hx 3; have h4 := hx 4; have h5 := hx 5; have h6 := hx 6; have h7 := hx 7
  have e : (IntOp.subi (IntOp.shli .vector x 4#32) x).toNat = 15 * x.toNat := by
    show (x <<< 4#32 - x).toNat = _
    rw [BitVec.toNat_sub, BitVec.shiftLeft_eq', BitVec.toNat_shiftLeft]
    show (2 ^ 32 - x.toNat + (x.toNat <<< 4) % 2 ^ 32) % 2 ^ 32 = _
    rw [Nat.shiftLeft_eq]
    omega
  have hn := nib_of_sum (IntOp.subi (IntOp.shli .vector x 4#32) x) (fun k => 15 * (nib x k).toNat) (fun k => by have := hx k; omega) (by rw [e]; omega) k
  have hk := hx k
  apply BitVec.eq_of_toNat_eq
  rw [hn]
  split
  · rename_i hc; rw [hc]; rfl
  · rename_i hc
    have : (nib x k).toNat ≠ 1 := fun h => hc (BitVec.eq_of_toNat_eq h)
    have : (nib x k).toNat = 0 := by omega
    show 15 * (nib x k).toNat = 0
    omega

theorem low_bit : ∀ (k : Fin 8) (i : Nat), i < 4 → (286331153#32).getLsbD (4 * k.val + i) = decide (i = 0) := by
  intro k i hi
  have h := congrArg (fun w : BitVec 4 => w.getLsbD i) (nib_low k)
  simp only [nib_getLsbD _ _ _ hi] at h
  rw [h]
  interval_cases i <;> rfl

/-- The bit `s` of each field, brought to the field's low end. -/
theorem nib_bit (v : BitVec 32) (s : Nat) (hs : s < 4) (k : Fin 8) :
    nib (IntOp.andi (v >>> s) 286331153#32) k = if (nib v k).getLsbD s then 1#4 else 0#4 := by
  apply BitVec.eq_of_getLsbD_eq; intro i hi
  rw [nib_getLsbD _ _ _ hi, nib_getLsbD _ _ _ hs]
  simp only [IntOp.andi, BitVec.getLsbD_and, low_bit k i hi, BitVec.getLsbD_ushiftRight]
  by_cases h : i = 0
  · subst h
    have : s + (4 * k.val + 0) = 4 * k.val + s := by omega
    rw [this]
    cases v.getLsbD (4 * k.val + s) <;> rfl
  · have : (1#4).getLsbD i = false := by interval_cases i <;> first | exact absurd rfl h | rfl
    simp only [h, decide_false, Bool.and_false]
    split
    · exact this.symm
    · simp

/-- The mask of bit `s`. -/
theorem nib_maskBit (v x : BitVec 32) (s : Nat) (hs : s < 4) (hx : x = IntOp.andi (v >>> s) 286331153#32) (k : Fin 8) :
    nib (IntOp.subi (IntOp.shli .vector x 4#32) x) k = if (nib v k).getLsbD s then 15#4 else 0#4 := by
  subst hx
  rw [nib_mask _ (fun k => by rw [nib_bit v s hs]; split <;> decide), nib_bit v s hs]
  cases (nib v k).getLsbD s <;> rfl

/-- A field moved to the top and back down is itself with its sign. -/
theorem nib_decode (w : BitVec 32) (k : Fin 8) :
    IntOp.shrsi .vector (IntOp.shli .vector w (IntOp.subi 28#32 (IntOp.muli 4#32 (BitVec.ofNat 32 k.val)))) 28#32 = (nib w k).signExtend 32 := by
  have e1 : ∀ k : Fin 8, (IntOp.subi 28#32 (IntOp.muli 4#32 (BitVec.ofNat 32 k.val))) = BitVec.ofNat 32 (28 - 4 * k.val) := by decide
  rw [e1]
  have e2 : ∀ k : Fin 8, (BitVec.ofNat 32 (28 - 4 * k.val)).toNat = 28 - 4 * k.val := by decide
  have hk := k.isLt
  have e3 : IntOp.shli .vector w (BitVec.ofNat 32 (28 - 4 * k.val)) = w <<< (28 - 4 * k.val) := by
    unfold IntOp.shli
    rw [if_pos (by rw [e2]; omega), BitVec.shiftLeft_eq', e2]
  rw [e3]
  show (w <<< (28 - 4 * k.val)).sshiftRight 28 = _
  apply BitVec.eq_of_getLsbD_eq; intro i hi
  rw [BitVec.getLsbD_sshiftRight, BitVec.getLsbD_signExtend]
  have hm : (nib w k).msb = w.getLsbD (4 * k.val + 3) := by
    rw [BitVec.msb_eq_getLsbD_last]; exact nib_getLsbD _ _ _ (by decide)
  have hm' : (w <<< (28 - 4 * k.val)).msb = w.getLsbD (4 * k.val + 3) := by
    rw [BitVec.msb_eq_getLsbD_last, BitVec.getLsbD_shiftLeft]
    have : 32 - 1 - (28 - 4 * k.val) = 4 * k.val + 3 := by omega
    rw [this]
    have h1 : ¬ (32 - 1 < 28 - 4 * k.val) := by omega
    simp [h1]
  rw [hm, hm']
  have hge : ¬ (32 ≤ i) := by omega
  simp only [hge, hi, decide_false, decide_true, Bool.not_false, Bool.true_and]
  by_cases h4 : i < 4
  · have h5 : 28 + i < 32 := by omega
    simp only [h4, h5, if_true]
    rw [nib_getLsbD _ _ _ h4, BitVec.getLsbD_shiftLeft]
    have h6 : ¬ (28 + i < 28 - 4 * k.val) := by omega
    have h7 : 28 + i - (28 - 4 * k.val) = 4 * k.val + i := by omega
    simp [h5, h6, h7]
  · have h5 : ¬ (28 + i < 32) := by omega
    simp only [h4, h5, if_false]

theorem nib_term : ∀ (n : BitVec 4) (k : Fin 8), (IntOp.shli .vector (n.setWidth 32) (IntOp.muli 4#32 (BitVec.ofNat 32 k.val))).toNat = n.toNat * 16 ^ k.val := by
  decide +kernel

theorem low4 : ∀ b : BitVec 8, IntOp.andi (BitVec.signExtend 32 b) 15#32 = (half b 0).setWidth 32 := by decide +kernel

theorem fold8 (g : Fin 8 → BitVec 32) : Finset.fold IntOp.addi 0#32 g Finset.univ = g 0 + (g 1 + (g 2 + (g 3 + (g 4 + (g 5 + (g 6 + (g 7 + 0#32))))))) := rfl

/-- The sum of eight low halves, each in its place, has them as its fields. -/
theorem nib_pack (f : Fin 8 → BitVec 8) (k : Fin 8) :
    nib (Finset.fold IntOp.addi 0#32 (fun x : Fin 8 => IntOp.shli .vector (IntOp.andi (BitVec.signExtend 32 (f x)) 15#32) (IntOp.muli 4#32 (BitVec.ofNat 32 x.val))) Finset.univ) k
      = half (f k) 0 := by
  apply BitVec.eq_of_toNat_eq
  refine nib_of_sum _ (fun k => (half (f k) 0).toNat) (fun k => (half (f k) 0).isLt) ?_ k
  rw [fold8]
  simp only [BitVec.toNat_add, low4, nib_term]
  have h (k : Fin 8) : (half (f k) 0).toNat < 16 := (half (f k) 0).isLt
  have h0 := h 0; have h1 := h 1; have h2 := h 2; have h3 := h 3; have h4 := h 4; have h5 := h 5; have h6 := h 6; have h7 := h 7
  simp only [Fin.val_zero, Fin.val_one, show (2 : Fin 8).val = 2 from rfl, show (3 : Fin 8).val = 3 from rfl, show (4 : Fin 8).val = 4 from rfl, show (5 : Fin 8).val = 5 from rfl, show (6 : Fin 8).val = 6 from rfl, show (7 : Fin 8).val = 7 from rfl,
    show (0#32).toNat = 0 from rfl]
  norm_num
  omega

/-- The four selections of a quad, on four-bit words. -/
def selN (e a b : BitVec 4) (p : Fin 4) : BitVec 4 :=
  let m (s : Nat) : BitVec 4 := if e.getLsbD s then 15#4 else 0#4
  match p with
  | 0 => a &&& ((m 0 ||| m 1) ^^^ 15#4)
  | 1 => ((a &&& m 0) &&& (m 1 ^^^ 15#4)) ||| ((b &&& m 2) &&& (m 3 ^^^ 15#4))
  | 2 => ((a &&& m 1) &&& (m 0 ^^^ 15#4)) ||| ((b &&& m 3) &&& (m 2 ^^^ 15#4))
  | 3 => (b &&& m 2) &&& m 3

theorem selN_eq : ∀ e a b : BitVec 4, QuadOK e → ∀ p, selN e a b p = pick e a b p := by decide +kernel

end Cert.Delta

end
-- ==== Proof.TileVal.lean ====
/- One tile of a tenant's weights, element by element, over the ideal numbers. -/
module

public import proofs.«01_k».proof.Proof.Body
public import proofs.«01_k».proof.Proof.Nib
public import Idealize.ShloMosaic.Lib.BitcastFour

@[expose] public section

set_option maxRecDepth 8192

noncomputable section

namespace Cert.Delta

open Cert.KernelIdeal Cert.KernelIdeal.Gen
open Idealize.ShloMosaic Idealize.ShloMosaic.TcCoe

/-- A byte of a column of words. -/
theorem bytes_getLsbD (W : IVec S16x256 32) (R : Fin 64) (n : Fin 256) (i : Nat) (hi : i < 8) :
    (bitcast S64x256 8 W bitcasts_S16x256_w32_S64x256_w8 (ix2 R n)).getLsbD i = (W (ix2 ⟨R.val / 4, by omega⟩ n)).getLsbD (8 * (R.val % 4) + i) := by
  rw [ix2_eq_valueIdx, bitcast_getLsbD W _ _ i hi (by decide)]
  have er : (Shape.row (s := S64x256) (ValueIdx.ix2 R n)) = R.val := rfl
  have e2 : (R.val * 32 + i) = R.val * 32 + i := rfl
  refine Eq.trans (b := (W (ix2 ⟨R.val / 4, by omega⟩ n)).getLsbD ((R.val * 8 + i) % 32)) ?_ ?_
  · refine congrArg (fun y => (W y).getLsbD ((R.val * 8 + i) % 32)) ?_
    rw [ix2_eq_valueIdx]
    funext c
    match c with
    | ⟨0, _⟩ => exact Fin.ext ((bitcasts_S16x256_w32_S64x256_w8.srcIdx_row _ _ _ ⟨0, Nat.zero_lt_two⟩ rfl).trans (show (R.val * 8 + i) / 32 = R.val / 4 by omega))
    | ⟨1, _⟩ => exact Fin.ext (bitcasts_S16x256_w32_S64x256_w8.srcIdx_other _ _ _ ⟨1, Nat.one_lt_two⟩ (by show ¬ 1 + 2 = 2; omega))
  · congr 1; omega

theorem words64 (x : IVec S64x256 8) (a : Fin 16) (n : Fin 256) (q : Nat) (hq : q < 32) :
    (bitcast S16x256 32 x bitcasts_S64x256_w8_S16x256_w32 (ix2 a n)).getLsbD q = (x (ix2 ⟨4 * a.val + q / 8, by omega⟩ n)).getLsbD (q % 8) := by
  rw [ix2_eq_valueIdx, bitcast_getLsbD x _ _ q hq (by decide)]
  refine Eq.trans (b := (x (ix2 ⟨4 * a.val + q / 8, by omega⟩ n)).getLsbD ((a.val * 32 + q) % 8)) ?_ ?_
  · refine congrArg (fun y => (x y).getLsbD ((a.val * 32 + q) % 8)) ?_
    rw [ix2_eq_valueIdx]
    funext c
    match c with
    | ⟨0, _⟩ => exact Fin.ext ((bitcasts_S64x256_w8_S16x256_w32).srcIdx_row _ _ _ ⟨0, Nat.zero_lt_two⟩ rfl |>.trans (show (a.val * 32 + q) / 8 = 4 * a.val + q / 8 by omega))
    | ⟨1, _⟩ => exact Fin.ext ((bitcasts_S64x256_w8_S16x256_w32).srcIdx_other _ _ _ ⟨1, Nat.one_lt_two⟩ (by show ¬ 1 + 2 = 2; omega))
  · congr 1; omega

theorem words32 (x : IVec S32x256 8) (a : Fin 8) (n : Fin 256) (q : Nat) (hq : q < 32) :
    (bitcast S8x256 32 x bitcasts_S32x256_w8_S8x256_w32 (ix2 a n)).getLsbD q = (x (ix2 ⟨4 * a.val + q / 8, by omega⟩ n)).getLsbD (q % 8) := by
  rw [ix2_eq_valueIdx, bitcast_getLsbD x _ _ q hq (by decide)]
  refine Eq.trans (b := (x (ix2 ⟨4 * a.val + q / 8, by omega⟩ n)).getLsbD ((a.val * 32 + q) % 8)) ?_ ?_
  · refine congrArg (fun y => (x y).getLsbD ((a.val * 32 + q) % 8)) ?_
    rw [ix2_eq_valueIdx]
    funext c
    match c with
    | ⟨0, _⟩ => exact Fin.ext ((bitcasts_S32x256_w8_S8x256_w32).srcIdx_row _ _ _ ⟨0, Nat.zero_lt_two⟩ rfl |>.trans (show (a.val * 32 + q) / 8 = 4 * a.val + q / 8 by omega))
    | ⟨1, _⟩ => exact Fin.ext ((bitcasts_S32x256_w8_S8x256_w32).srcIdx_other _ _ _ ⟨1, Nat.one_lt_two⟩ (by show ¬ 1 + 2 = 2; omega))
  · congr 1; omega

theorem shape64 (v27 : Vec Ideal S1x64x256 .i8) (R : Fin 64) (n : Fin 256) : shapeCast S64x256 v27 shapeCasts_S1x64x256_S64x256 (ix2 R n) = v27 (ix3 0 R n) := by
  pointwise []

theorem shape32 (v30 : Vec Ideal S1x32x256 .i8) (R : Fin 32) (n : Fin 256) : shapeCast S32x256 v30 shapeCasts_S1x32x256_S32x256 (ix2 R n) = v30 (ix3 0 R n) := by
  pointwise []

theorem pay21_getLsbD (v27 : Vec Ideal S1x64x256 .i8) (a : Fin 16) (n : Fin 256) (q : Nat) (hq : q < 32) :
    (k0_pay21 (F := Ideal) v27 (ix2 a n)).getLsbD q = (v27 (ix3 0 ⟨4 * a.val + q / 8, by omega⟩ n)).getLsbD (q % 8) :=
  (words64 (shapeCast S64x256 v27 shapeCasts_S1x64x256_S64x256) a n q hq).trans (congrArg (fun b : BitVec 8 => b.getLsbD (q % 8)) (shape64 v27 _ n))

theorem pay24_getLsbD (v30 : Vec Ideal S1x32x256 .i8) (a : Fin 8) (n : Fin 256) (q : Nat) (hq : q < 32) :
    (k0_pay24 (F := Ideal) v30 (ix2 a n)).getLsbD q = (v30 (ix3 0 ⟨4 * a.val + q / 8, by omega⟩ n)).getLsbD (q % 8) :=
  (words32 (shapeCast S32x256 v30 shapeCasts_S1x32x256_S32x256) a n q hq).trans (congrArg (fun b : BitVec 8 => b.getLsbD (q % 8)) (shape32 v30 _ n))

theorem half_getLsbD (b : BitVec 8) (h i : Nat) (hi : i < 4) : (half b h).getLsbD i = b.getLsbD (4 * h + i) := by
  simp [half, BitVec.getLsbD_extractLsb', hi]

/-- The words of the first kept values. -/
theorem nib_pay22 (v27 : Vec Ideal S1x64x256 .i8) (A : Fin 8) (n : Fin 256) (k : Fin 8) :
    nib (k0_pay22 (F := Ideal) v27 (ix2 A n)) k = half (v27 (ix3 0 ⟨A.val * 8 + k.val, by omega⟩ n)) 0 := by
  have e : k0_pay22 (F := Ideal) v27 (ix2 A n) = Finset.fold IntOp.addi 0#32 (fun x : Fin 8 => IntOp.shli .vector (IntOp.andi (BitVec.signExtend 32
      (bitcast S64x256 8 (k0_pay21 (F := Ideal) v27) bitcasts_S16x256_w32_S64x256_w8 (ix2 ⟨A.val * 8 + x.val, by omega⟩ n))) 15#32) (IntOp.muli 4#32 (BitVec.ofNat 32 x.val))) Finset.univ := by
    pointwise [k0_pay22, k0_pay20]
  rw [e, nib_pack]
  apply BitVec.eq_of_getLsbD_eq; intro i hi
  rw [half_getLsbD _ _ _ hi, half_getLsbD _ _ _ hi, bytes_getLsbD _ _ _ _ (by omega), pay21_getLsbD _ _ _ _ (by omega)]
  have c1 : (8 * ((A.val * 8 + k.val) % 4) + (4 * 0 + i)) % 8 = 4 * 0 + i := by omega
  have c2 : 4 * ((A.val * 8 + k.val) / 4) + (8 * ((A.val * 8 + k.val) % 4) + (4 * 0 + i)) / 8 = A.val * 8 + k.val := by omega
  simp only [c1, c2]

/-- The words of the second kept values. -/
theorem nib_pay23 (v27 : Vec Ideal S1x64x256 .i8) (A : Fin 8) (n : Fin 256) (k : Fin 8) :
    nib (k0_pay23 (F := Ideal) v27 (ix2 A n)) k = half (v27 (ix3 0 ⟨A.val * 8 + k.val, by omega⟩ n)) 1 := by
  have e : k0_pay23 (F := Ideal) v27 (ix2 A n) = Finset.fold IntOp.addi 0#32 (fun x : Fin 8 => IntOp.shli .vector (IntOp.andi (BitVec.signExtend 32
      (bitcast S64x256 8 (shrui (k0_pay21 (F := Ideal) v27) (broadcast S16x256 4#32)) bitcasts_S16x256_w32_S64x256_w8 (ix2 ⟨A.val * 8 + x.val, by omega⟩ n))) 15#32) (IntOp.muli 4#32 (BitVec.ofNat 32 x.val))) Finset.univ := by
    pointwise [k0_pay23, k0_pay20]
  have hs (y : S16x256.Idx) : shrui (k0_pay21 (F := Ideal) v27) (broadcast S16x256 4#32) y = (k0_pay21 (F := Ideal) v27 y) >>> 4 := rfl
  rw [e, nib_pack]
  apply BitVec.eq_of_getLsbD_eq; intro i hi
  rw [half_getLsbD _ _ _ hi, half_getLsbD _ _ _ hi, bytes_getLsbD _ _ _ _ (by omega), hs, BitVec.getLsbD_ushiftRight, pay21_getLsbD _ _ _ _ (by omega)]
  have c1 : (4 + (8 * ((A.val * 8 + k.val) % 4) + (4 * 0 + i))) % 8 = 4 * 1 + i := by omega
  have c2 : 4 * ((A.val * 8 + k.val) / 4) + (4 + (8 * ((A.val * 8 + k.val) % 4) + (4 * 0 + i))) / 8 = A.val * 8 + k.val := by omega
  simp only [c1, c2]

/-- The words of the kept positions. -/
theorem nib_pay24 (v30 : Vec Ideal S1x32x256 .i8) (A : Fin 8) (n : Fin 256) (k : Fin 8) :
    nib (k0_pay24 (F := Ideal) v30 (ix2 A n)) k = half (v30 (ix3 0 ⟨4 * A.val + k.val / 2, by omega⟩ n)) (k.val % 2) := by
  apply BitVec.eq_of_getLsbD_eq; intro i hi
  rw [half_getLsbD _ _ _ hi, nib_getLsbD _ _ _ hi, pay24_getLsbD _ _ _ _ (by omega)]
  have c1 : (4 * k.val + i) % 8 = 4 * (k.val % 2) + i := by omega
  have c2 : 4 * A.val + (4 * k.val + i) / 8 = 4 * A.val + k.val / 2 := by omega
  simp only [c1, c2]

/-- The value bytes, the position byte and the scale a row of the tile is decoded from. -/
def tileE (v30 : Vec Ideal S1x32x256 .i8) (q : Fin 64) (n : Fin 256) : BitVec 4 := half (v30 (ix3 0 ⟨q.val / 2, by omega⟩ n)) (q.val % 2)

section
variable (v27 : Vec Ideal S1x64x256 .i8) (v30 : Vec Ideal S1x32x256 .i8) (q : Fin 64) (n : Fin 256)

theorem words_at : nib (k0_pay22 (F := Ideal) v27 (ix2 ⟨q.val / 8, by omega⟩ n)) ⟨q.val % 8, by omega⟩ = half (v27 (ix3 0 q n)) 0
    ∧ nib (k0_pay23 (F := Ideal) v27 (ix2 ⟨q.val / 8, by omega⟩ n)) ⟨q.val % 8, by omega⟩ = half (v27 (ix3 0 q n)) 1
    ∧ nib (k0_pay24 (F := Ideal) v30 (ix2 ⟨q.val / 8, by omega⟩ n)) ⟨q.val % 8, by omega⟩ = tileE v30 q n := by
  have c1 : q.val / 8 * 8 + q.val % 8 = q.val := by omega
  have c2 : 4 * (q.val / 8) + q.val % 8 / 2 = q.val / 2 := by omega
  have c3 : q.val % 8 % 2 = q.val % 2 := by omega
  refine ⟨?_, ?_, ?_⟩
  · rw [nib_pay22]; simp only [c1]
  · rw [nib_pay23]; simp only [c1]
  · rw [nib_pay24]; simp only [c2, c3]; rfl

theorem mask0 (w : BitVec 32) (k : Fin 8) : nib (IntOp.subi (IntOp.shli .vector (IntOp.andi w 286331153#32) 4#32) (IntOp.andi w 286331153#32)) k = if (nib w k).getLsbD 0 then 15#4 else 0#4 :=
  nib_maskBit w _ 0 (by decide) (by simp) k

theorem maskS (w : BitVec 32) (s : Fin 4) (k : Fin 8) : nib (IntOp.subi (IntOp.shli .vector (IntOp.andi (IntOp.shrui .vector w (BitVec.ofNat 32 s.val)) 286331153#32) 4#32) (IntOp.andi (IntOp.shrui .vector w (BitVec.ofNat 32 s.val)) 286331153#32)) k = if (nib w k).getLsbD s.val then 15#4 else 0#4 := by
  refine nib_maskBit w _ s.val s.isLt ?_ k
  have : ∀ s : Fin 4, (BitVec.ofNat 32 s.val).toNat = s.val := by decide
  unfold IntOp.shrui
  rw [if_pos (by rw [this]; omega), BitVec.ushiftRight_eq', this]

theorem mask1 (w : BitVec 32) (k : Fin 8) : nib (IntOp.subi (IntOp.shli .vector (IntOp.andi (IntOp.shrui .vector w 1#32) 286331153#32) 4#32) (IntOp.andi (IntOp.shrui .vector w 1#32) 286331153#32)) k = if (nib w k).getLsbD 1 then 15#4 else 0#4 := maskS w 1 k
theorem mask2 (w : BitVec 32) (k : Fin 8) : nib (IntOp.subi (IntOp.shli .vector (IntOp.andi (IntOp.shrui .vector w 2#32) 286331153#32) 4#32) (IntOp.andi (IntOp.shrui .vector w 2#32) 286331153#32)) k = if (nib w k).getLsbD 2 then 15#4 else 0#4 := maskS w 2 k
theorem mask3 (w : BitVec 32) (k : Fin 8) : nib (IntOp.subi (IntOp.shli .vector (IntOp.andi (IntOp.shrui .vector w 3#32) 286331153#32) 4#32) (IntOp.andi (IntOp.shrui .vector w 3#32) 286331153#32)) k = if (nib w k).getLsbD 3 then 15#4 else 0#4 := maskS w 3 k

theorem dec0_at : dec0 (F := Ideal) v27 v30 (ix2 q n) = nibF (selN (tileE v30 q n) (half (v27 (ix3 0 q n)) 0) (half (v27 (ix3 0 q n)) 1) 0) := by
  obtain ⟨h0, h1, h2⟩ := words_at v27 v30 q n
  pointwise [dec0, k0_pay33, k0_pay20, k0_pay25, k0_pay26, k0_pay27]
  refine congrArg (FloatOps.sitofp (F := Ideal) .bf16) ((nib_decode _ ⟨q.val % 8, by omega⟩).trans (congrArg (BitVec.signExtend 32) ?_))
  rw [nib_and, nib_xor, nib_or, mask1, mask0, nib_ones, h0, h2]
  rfl

theorem dec1_at : k0_pay36 (F := Ideal) k0_pay20 (selW1 v27 v30) (ix2 q n) = nibF (selN (tileE v30 q n) (half (v27 (ix3 0 q n)) 0) (half (v27 (ix3 0 q n)) 1) 1) := by
  obtain ⟨h0, h1, h2⟩ := words_at v27 v30 q n
  pointwise [k0_pay36, k0_pay20, selW1, k0_pay30, k0_pay25, k0_pay26, k0_pay27, k0_pay28, k0_pay29]
  refine congrArg (FloatOps.sitofp (F := Ideal) .bf16) ((nib_decode _ ⟨q.val % 8, by omega⟩).trans (congrArg (BitVec.signExtend 32) ?_))
  rw [nib_or, nib_and, nib_and, nib_and, nib_and, nib_xor, nib_xor, mask1, mask2, mask3, mask0, nib_ones, h0, h1, h2]
  rfl

theorem dec2_at : k0_pay39 (F := Ideal) k0_pay20 (selW2 v27 v30) (ix2 q n) = nibF (selN (tileE v30 q n) (half (v27 (ix3 0 q n)) 0) (half (v27 (ix3 0 q n)) 1) 2) := by
  obtain ⟨h0, h1, h2⟩ := words_at v27 v30 q n
  pointwise [k0_pay39, k0_pay20, selW2, k0_pay31, k0_pay25, k0_pay26, k0_pay27, k0_pay28, k0_pay29]
  refine congrArg (FloatOps.sitofp (F := Ideal) .bf16) ((nib_decode _ ⟨q.val % 8, by omega⟩).trans (congrArg (BitVec.signExtend 32) ?_))
  rw [nib_or, nib_and, nib_and, nib_and, nib_and, nib_xor, nib_xor, mask1, mask2, mask3, mask0, nib_ones, h0, h1, h2]
  rfl

theorem dec3_at : k0_pay42 (F := Ideal) k0_pay20 (selW3 v27 v30) (ix2 q n) = nibF (selN (tileE v30 q n) (half (v27 (ix3 0 q n)) 0) (half (v27 (ix3 0 q n)) 1) 3) := by
  obtain ⟨h0, h1, h2⟩ := words_at v27 v30 q n
  pointwise [k0_pay42, k0_pay20, selW3, k0_pay32, k0_pay28, k0_pay29]
  refine congrArg (FloatOps.sitofp (F := Ideal) .bf16) ((nib_decode _ ⟨q.val % 8, by omega⟩).trans (congrArg (BitVec.signExtend 32) ?_))
  rw [nib_and, nib_and, mask2, mask3, h1, h2]
  rfl

end

/-- One element of a tile: row `64p + q` holds position `p` of quad `q`. -/
theorem tile_at (v27 : Vec Ideal S1x64x256 .i8) (v30 : Vec Ideal S1x32x256 .i8) (v33 v36 : Vec Ideal S1x1x256 .bf16) (p : Fin 4) (q : Fin 64) (n : Fin 256) (hq : QuadOK (tileE v30 q n)) :
    tileF (F := Ideal) v27 v30 v33 v36 (ix2 ⟨64 * p.val + q.val, by omega⟩ n)
      = nibF (pick (tileE v30 q n) (half (v27 (ix3 0 q n)) 0) (half (v27 (ix3 0 q n)) 1) p) * (if q.val < 32 then v33 (ix3 0 0 n) else v36 (ix3 0 0 n) : Ideal .bf16) := by
  rw [← selN_eq _ _ _ hq]
  pointwise [tileF, k0_pay45, k0_pay34, k0_pay35, k0_pay18, k0_pay19, k0_pay37, k0_pay38, k0_pay40, k0_pay41, k0_pay43, k0_pay44]
  simp only [dec0_at, dec1_at, dec2_at, dec3_at]
  have key (z : Fin 64) (hz : z.val = q.val) : z = q := Fin.ext hz
  match p with
  | ⟨0, _⟩ =>
    by_cases h : q.val < 32
    · rw [dif_pos (by show 64 * 0 + q.val < 32; omega), if_pos h, key ⟨64 * 0 + q.val, _⟩ (by show 64 * 0 + q.val = q.val; omega)]; rfl
    · rw [dif_neg (by show ¬ 64 * 0 + q.val < 32; omega), dif_pos (by show 64 * 0 + q.val - 32 < 32; omega), if_neg h, key ⟨32 + (64 * 0 + q.val - 32), _⟩ (by show 32 + (64 * 0 + q.val - 32) = q.val; omega)]; rfl
  | ⟨1, _⟩ =>
    by_cases h : q.val < 32
    · rw [dif_neg (by show ¬ 64 * 1 + q.val < 32; omega), dif_neg (by show ¬ 64 * 1 + q.val - 32 < 32; omega), dif_pos (by show 64 * 1 + q.val - 32 - 32 < 32; omega), if_pos h, key ⟨64 * 1 + q.val - 32 - 32, _⟩ (by show 64 * 1 + q.val - 32 - 32 = q.val; omega)]; rfl
    · rw [dif_neg (by show ¬ 64 * 1 + q.val < 32; omega), dif_neg (by show ¬ 64 * 1 + q.val - 32 < 32; omega), dif_neg (by show ¬ 64 * 1 + q.val - 32 - 32 < 32; omega), dif_pos (by show 64 * 1 + q.val - 32 - 32 - 32 < 32; omega), if_neg h, key ⟨32 + (64 * 1 + q.val - 32 - 32 - 32), _⟩ (by show 32 + (64 * 1 + q.val - 32 - 32 - 32) = q.val; omega)]; rfl
  | ⟨2, _⟩ =>
    by_cases h : q.val < 32
    · rw [dif_neg (by show ¬ 64 * 2 + q.val < 32; omega), dif_neg (by show ¬ 64 * 2 + q.val - 32 < 32; omega), dif_neg (by show ¬ 64 * 2 + q.val - 32 - 32 < 32; omega), dif_neg (by show ¬ 64 * 2 + q.val - 32 - 32 - 32 < 32; omega), dif_pos (by show 64 * 2 + q.val - 32 - 32 - 32 - 32 < 32; omega), if_pos h, key ⟨64 * 2 + q.val - 32 - 32 - 32 - 32, _⟩ (by show 64 * 2 + q.val - 32 - 32 - 32 - 32 = q.val; omega)]; rfl
    · rw [dif_neg (by show ¬ 64 * 2 + q.val < 32; omega), dif_neg (by show ¬ 64 * 2 + q.val - 32 < 32; omega), dif_neg (by show ¬ 64 * 2 + q.val - 32 - 32 < 32; omega), dif_neg (by show ¬ 64 * 2 + q.val - 32 - 32 - 32 < 32; omega), dif_neg (by show ¬ 64 * 2 + q.val - 32 - 32 - 32 - 32 < 32; omega), dif_pos (by show 64 * 2 + q.val - 32 - 32 - 32 - 32 - 32 < 32; omega), if_neg h, key ⟨32 + (64 * 2 + q.val - 32 - 32 - 32 - 32 - 32), _⟩ (by show 32 + (64 * 2 + q.val - 32 - 32 - 32 - 32 - 32) = q.val; omega)]; rfl
  | ⟨3, _⟩ =>
    by_cases h : q.val < 32
    · rw [dif_neg (by show ¬ 64 * 3 + q.val < 32; omega), dif_neg (by show ¬ 64 * 3 + q.val - 32 < 32; omega), dif_neg (by show ¬ 64 * 3 + q.val - 32 - 32 < 32; omega), dif_neg (by show ¬ 64 * 3 + q.val - 32 - 32 - 32 < 32; omega), dif_neg (by show ¬ 64 * 3 + q.val - 32 - 32 - 32 - 32 < 32; omega), dif_neg (by show ¬ 64 * 3 + q.val - 32 - 32 - 32 - 32 - 32 < 32; omega), dif_pos (by show 64 * 3 + q.val - 32 - 32 - 32 - 32 - 32 - 32 < 32; omega), if_pos h, key ⟨64 * 3 + q.val - 32 - 32 - 32 - 32 - 32 - 32, _⟩ (by show 64 * 3 + q.val - 32 - 32 - 32 - 32 - 32 - 32 = q.val; omega)]; rfl
    · rw [dif_neg (by show ¬ 64 * 3 + q.val < 32; omega), dif_neg (by show ¬ 64 * 3 + q.val - 32 < 32; omega), dif_neg (by show ¬ 64 * 3 + q.val - 32 - 32 < 32; omega), dif_neg (by show ¬ 64 * 3 + q.val - 32 - 32 - 32 < 32; omega), dif_neg (by show ¬ 64 * 3 + q.val - 32 - 32 - 32 - 32 < 32; omega), dif_neg (by show ¬ 64 * 3 + q.val - 32 - 32 - 32 - 32 - 32 < 32; omega), dif_neg (by show ¬ 64 * 3 + q.val - 32 - 32 - 32 - 32 - 32 - 32 < 32; omega), if_neg h, key ⟨32 + (64 * 3 + q.val - 32 - 32 - 32 - 32 - 32 - 32 - 32), _⟩ (by show 32 + (64 * 3 + q.val - 32 - 32 - 32 - 32 - 32 - 32 - 32) = q.val; omega)]; rfl

end Cert.Delta

end
-- ==== Proof.Weights.lean ====
/- A tenant's decoded weights and the reordered rows, element by element, over the ideal numbers. -/
module

public import proofs.«01_k».proof.Proof.TileVal
public import proofs.«01_k».proof.Proof.Body

@[expose] public section

set_option maxRecDepth 8192

noncomputable section

namespace Cert.Delta

open Cert.KernelIdeal Cert.KernelIdeal.Gen
open Idealize.ShloMosaic Idealize.ShloMosaic.TcCoe

/-- A load through a unit rectangle at an index. -/
theorem ld_at {s : Shape} {e : EltTy} (X : Vec Ideal s e) (off sz : Fin s.rank → ℕ) (inb : ∀ a, off a + sz a ≤ s.size a)
    (y : (Rect.unit (s := s) off sz inb).shape.Idx) (z : s.Idx) (h : ∀ a, off a + (y a).val = (z a).val) :
    View.ld X (Rect.unit (s := s) off sz inb) y = X z := by
  show X ((Rect.unit (s := s) off sz inb).emb y) = X z
  congr 1
  funext a
  apply Fin.ext
  show off a + 1 * (y a).val = (z a).val
  rw [Nat.one_mul]; exact h a

theorem trips17 : k0_t1_loop.trips = 17 := by decide

/-- A tenant's number. -/
def tn (t : Fin k0_t1_loop.trips) : Fin 17 := ⟨t.val, trips17 ▸ t.isLt⟩

theorem off_ld5 : ∀ (t : Fin k0_t1_loop.trips) (j : Fin 10), (![k0_off3 t, k0_off7 t, k0_off11 t, k0_off15 t, k0_off19 t, k0_off23 t, k0_off27 t, k0_off31 t, k0_off35 t, k0_off39 t] : Fin 10 → Fin 3 → ℕ) j = ![t.val, 64 * j.val + 0, 0] := by
  decide +kernel

theorem ld5_at (t : Fin k0_t1_loop.trips) (X : Vec Ideal S17x640x256 .i8) (j : Fin 10) (q : Fin 64) (n : Fin 256) :
    ld5 t X j (ix3 0 q n) = X (ix3 (tn t) ⟨64 * j.val + 0 + q.val, by omega⟩ n) := by
  have key (j : Fin 10) (off : Fin 3 → ℕ) (inb : ∀ a, off a + S1x64x256.size a ≤ S17x640x256.size a) (ho : off = ![t.val, 64 * j.val + 0, 0]) :
      View.ld X (Rect.unit (s := S17x640x256) off S1x64x256.size inb) (ix3 0 q n) = X (ix3 (tn t) ⟨64 * j.val + 0 + q.val, by omega⟩ n) := by
    subst ho
    refine ld_at X _ _ _ _ _ fun a => ?_
    match a with
    | ⟨0, _⟩ => show t.val + 0 = t.val; omega
    | ⟨1, _⟩ => show 64 * j.val + 0 + q.val = 64 * j.val + 0 + q.val; rfl
    | ⟨2, _⟩ => show 0 + n.val = n.val; omega
  match j, off_ld5 t j with
  | ⟨0, h⟩, ho => exact key ⟨0, h⟩ _ (k0_off3_inb t) ho
  | ⟨1, h⟩, ho => exact key ⟨1, h⟩ _ (k0_off7_inb t) ho
  | ⟨2, h⟩, ho => exact key ⟨2, h⟩ _ (k0_off11_inb t) ho
  | ⟨3, h⟩, ho => exact key ⟨3, h⟩ _ (k0_off15_inb t) ho
  | ⟨4, h⟩, ho => exact key ⟨4, h⟩ _ (k0_off19_inb t) ho
  | ⟨5, h⟩, ho => exact key ⟨5, h⟩ _ (k0_off23_inb t) ho
  | ⟨6, h⟩, ho => exact key ⟨6, h⟩ _ (k0_off27_inb t) ho
  | ⟨7, h⟩, ho => exact key ⟨7, h⟩ _ (k0_off31_inb t) ho
  | ⟨8, h⟩, ho => exact key ⟨8, h⟩ _ (k0_off35_inb t) ho
  | ⟨9, h⟩, ho => exact key ⟨9, h⟩ _ (k0_off39_inb t) ho

theorem off_ld6 : ∀ (t : Fin k0_t1_loop.trips) (j : Fin 10), (![k0_off4 t, k0_off8 t, k0_off12 t, k0_off16 t, k0_off20 t, k0_off24 t, k0_off28 t, k0_off32 t, k0_off36 t, k0_off40 t] : Fin 10 → Fin 3 → ℕ) j = ![t.val, 32 * j.val + 0, 0] := by
  decide +kernel

theorem ld6_at (t : Fin k0_t1_loop.trips) (X : Vec Ideal S17x320x256 .i8) (j : Fin 10) (q : Fin 32) (n : Fin 256) :
    ld6 t X j (ix3 0 q n) = X (ix3 (tn t) ⟨32 * j.val + 0 + q.val, by omega⟩ n) := by
  have key (j : Fin 10) (off : Fin 3 → ℕ) (inb : ∀ a, off a + S1x32x256.size a ≤ S17x320x256.size a) (ho : off = ![t.val, 32 * j.val + 0, 0]) :
      View.ld X (Rect.unit (s := S17x320x256) off S1x32x256.size inb) (ix3 0 q n) = X (ix3 (tn t) ⟨32 * j.val + 0 + q.val, by omega⟩ n) := by
    subst ho
    refine ld_at X _ _ _ _ _ fun a => ?_
    match a with
    | ⟨0, _⟩ => show t.val + 0 = t.val; omega
    | ⟨1, _⟩ => show 32 * j.val + 0 + q.val = 32 * j.val + 0 + q.val; rfl
    | ⟨2, _⟩ => show 0 + n.val = n.val; omega
  match j, off_ld6 t j with
  | ⟨0, h⟩, ho => exact key ⟨0, h⟩ _ (k0_off4_inb t) ho
  | ⟨1, h⟩, ho => exact key ⟨1, h⟩ _ (k0_off8_inb t) ho
  | ⟨2, h⟩, ho => exact key ⟨2, h⟩ _ (k0_off12_inb t) ho
  | ⟨3, h⟩, ho => exact key ⟨3, h⟩ _ (k0_off16_inb t) ho
  | ⟨4, h⟩, ho => exact key ⟨4, h⟩ _ (k0_off20_inb t) ho
  | ⟨5, h⟩, ho => exact key ⟨5, h⟩ _ (k0_off24_inb t) ho
  | ⟨6, h⟩, ho => exact key ⟨6, h⟩ _ (k0_off28_inb t) ho
  | ⟨7, h⟩, ho => exact key ⟨7, h⟩ _ (k0_off32_inb t) ho
  | ⟨8, h⟩, ho => exact key ⟨8, h⟩ _ (k0_off36_inb t) ho
  | ⟨9, h⟩, ho => exact key ⟨9, h⟩ _ (k0_off40_inb t) ho

theorem off_ld7 : ∀ (t : Fin k0_t1_loop.trips) (j : Fin 10), (![k0_off5 t, k0_off9 t, k0_off13 t, k0_off17 t, k0_off21 t, k0_off25 t, k0_off29 t, k0_off33 t, k0_off37 t, k0_off41 t] : Fin 10 → Fin 3 → ℕ) j = ![t.val, 2 * j.val + 0, 0] := by
  decide +kernel

theorem ld7_at (t : Fin k0_t1_loop.trips) (X : Vec Ideal S17x20x256 .bf16) (j : Fin 10) (q : Fin 1) (n : Fin 256) :
    ld7 t X j (ix3 0 q n) = X (ix3 (tn t) ⟨2 * j.val + 0 + q.val, by omega⟩ n) := by
  have key (j : Fin 10) (off : Fin 3 → ℕ) (inb : ∀ a, off a + S1x1x256.size a ≤ S17x20x256.size a) (ho : off = ![t.val, 2 * j.val + 0, 0]) :
      View.ld X (Rect.unit (s := S17x20x256) off S1x1x256.size inb) (ix3 0 q n) = X (ix3 (tn t) ⟨2 * j.val + 0 + q.val, by omega⟩ n) := by
    subst ho
    refine ld_at X _ _ _ _ _ fun a => ?_
    match a with
    | ⟨0, _⟩ => show t.val + 0 = t.val; omega
    | ⟨1, _⟩ => show 2 * j.val + 0 + q.val = 2 * j.val + 0 + q.val; rfl
    | ⟨2, _⟩ => show 0 + n.val = n.val; omega
  match j, off_ld7 t j with
  | ⟨0, h⟩, ho => exact key ⟨0, h⟩ _ (k0_off5_inb t) ho
  | ⟨1, h⟩, ho => exact key ⟨1, h⟩ _ (k0_off9_inb t) ho
  | ⟨2, h⟩, ho => exact key ⟨2, h⟩ _ (k0_off13_inb t) ho
  | ⟨3, h⟩, ho => exact key ⟨3, h⟩ _ (k0_off17_inb t) ho
  | ⟨4, h⟩, ho => exact key ⟨4, h⟩ _ (k0_off21_inb t) ho
  | ⟨5, h⟩, ho => exact key ⟨5, h⟩ _ (k0_off25_inb t) ho
  | ⟨6, h⟩, ho => exact key ⟨6, h⟩ _ (k0_off29_inb t) ho
  | ⟨7, h⟩, ho => exact key ⟨7, h⟩ _ (k0_off33_inb t) ho
  | ⟨8, h⟩, ho => exact key ⟨8, h⟩ _ (k0_off37_inb t) ho
  | ⟨9, h⟩, ho => exact key ⟨9, h⟩ _ (k0_off41_inb t) ho

theorem off_ld7b : ∀ (t : Fin k0_t1_loop.trips) (j : Fin 10), (![k0_off6 t, k0_off10 t, k0_off14 t, k0_off18 t, k0_off22 t, k0_off26 t, k0_off30 t, k0_off34 t, k0_off38 t, k0_off42 t] : Fin 10 → Fin 3 → ℕ) j = ![t.val, 2 * j.val + 1, 0] := by
  decide +kernel

theorem ld7b_at (t : Fin k0_t1_loop.trips) (X : Vec Ideal S17x20x256 .bf16) (j : Fin 10) (q : Fin 1) (n : Fin 256) :
    ld7b t X j (ix3 0 q n) = X (ix3 (tn t) ⟨2 * j.val + 1 + q.val, by omega⟩ n) := by
  have key (j : Fin 10) (off : Fin 3 → ℕ) (inb : ∀ a, off a + S1x1x256.size a ≤ S17x20x256.size a) (ho : off = ![t.val, 2 * j.val + 1, 0]) :
      View.ld X (Rect.unit (s := S17x20x256) off S1x1x256.size inb) (ix3 0 q n) = X (ix3 (tn t) ⟨2 * j.val + 1 + q.val, by omega⟩ n) := by
    subst ho
    refine ld_at X _ _ _ _ _ fun a => ?_
    match a with
    | ⟨0, _⟩ => show t.val + 0 = t.val; omega
    | ⟨1, _⟩ => show 2 * j.val + 1 + q.val = 2 * j.val + 1 + q.val; rfl
    | ⟨2, _⟩ => show 0 + n.val = n.val; omega
  match j, off_ld7b t j with
  | ⟨0, h⟩, ho => exact key ⟨0, h⟩ _ (k0_off6_inb t) ho
  | ⟨1, h⟩, ho => exact key ⟨1, h⟩ _ (k0_off10_inb t) ho
  | ⟨2, h⟩, ho => exact key ⟨2, h⟩ _ (k0_off14_inb t) ho
  | ⟨3, h⟩, ho => exact key ⟨3, h⟩ _ (k0_off18_inb t) ho
  | ⟨4, h⟩, ho => exact key ⟨4, h⟩ _ (k0_off22_inb t) ho
  | ⟨5, h⟩, ho => exact key ⟨5, h⟩ _ (k0_off26_inb t) ho
  | ⟨6, h⟩, ho => exact key ⟨6, h⟩ _ (k0_off30_inb t) ho
  | ⟨7, h⟩, ho => exact key ⟨7, h⟩ _ (k0_off34_inb t) ho
  | ⟨8, h⟩, ho => exact key ⟨8, h⟩ _ (k0_off38_inb t) ho
  | ⟨9, h⟩, ho => exact key ⟨9, h⟩ _ (k0_off42_inb t) ho

theorem eta2 {a b : ℕ} (y : (⟨2, ![a, b]⟩ : Shape).Idx) : y = ix2 (y 0) (y 1) := by
  funext c
  match c with
  | ⟨0, _⟩ => rfl
  | ⟨1, _⟩ => rfl

/-- The weights the reference's formula gives, in the kernel's row order. -/
def wG (t : Fin 17) (V : Vec Ideal S17x640x256 .i8) (I : Vec Ideal S17x320x256 .i8) (D : Vec Ideal S17x20x256 .bf16) (y : S2560x256.Idx) : Ideal .bf16 :=
  wSpec (fun q => V (ix3 t q (y 1))) (fun q => I (ix3 t q (y 1))) (fun j => D (ix3 t j (y 1))) (perm (y 0))

theorem piece_at (t : Fin k0_t1_loop.trips) (V : Vec Ideal S17x640x256 .i8) (I : Vec Ideal S17x320x256 .i8) (D : Vec Ideal S17x20x256 .bf16)
    (hq : ∀ y h, h < 2 → QuadOK (half (I y) h)) (j : Fin 10) (o : ℕ) (ho : o = 256 * j.val)
    (inb : ∀ a, (![o, 0] : Fin 2 → ℕ) a + S256x256.size a ≤ S2560x256.size a) (x : S256x256.Idx) :
    tileF (F := Ideal) (ld5 t V j) (ld6 t I j) (ld7 t D j) (ld7b t D j) x = wG (tn t) V I D ((Rect.unit (s := S2560x256) ![o, 0] S256x256.size inb).emb x) := by
  subst ho
  have hP : (x 0).val < 256 := (x 0).isLt
  obtain ⟨p, hp⟩ : ∃ p : Fin 4, p.val = (x 0).val / 64 := ⟨⟨(x 0).val / 64, by omega⟩, rfl⟩
  obtain ⟨q, hq'⟩ : ∃ q : Fin 64, q.val = (x 0).val % 64 := ⟨⟨(x 0).val % 64, by omega⟩, rfl⟩
  obtain ⟨n, hn⟩ : ∃ n : Fin 256, n = x 1 := ⟨x 1, rfl⟩
  have ex : x = ix2 ⟨64 * p.val + q.val, by omega⟩ n := by
    refine (eta2 x).trans ?_
    rw [hn]
    congr 1
    apply Fin.ext
    show (x 0).val = 64 * p.val + q.val
    omega
  have ey : (Rect.unit (s := S2560x256) ![256 * j.val, 0] S256x256.size inb).emb x = ix2 ⟨256 * j.val + (64 * p.val + q.val), by omega⟩ n := by
    funext a
    match a with
    | ⟨0, _⟩ => apply Fin.ext; show 256 * j.val + 1 * (x 0).val = 256 * j.val + (64 * p.val + q.val); omega
    | ⟨1, _⟩ => apply Fin.ext; show 0 + 1 * (x 1).val = n.val; rw [hn]; omega
  have eperm : perm ⟨256 * j.val + (64 * p.val + q.val), by omega⟩ = ⟨256 * j.val + 4 * q.val + p.val, by omega⟩ := by
    apply Fin.ext
    show 256 * ((256 * j.val + (64 * p.val + q.val)) / 256) + 4 * ((256 * j.val + (64 * p.val + q.val)) % 64) + (256 * j.val + (64 * p.val + q.val)) % 256 / 64 = 256 * j.val + 4 * q.val + p.val
    omega
  have eE : tileE (ld6 t I j) q n = half (I (ix3 (tn t) ⟨32 * j.val + 0 + q.val / 2, by omega⟩ n)) (q.val % 2) := by
    unfold tileE
    rw [ld6_at t I j ⟨q.val / 2, by omega⟩ n]
  rw [ex, tile_at _ _ _ _ p q n (by rw [eE]; exact hq _ _ (by omega)), eE, ← ex, ey]
  unfold wG
  show _ = wSpec (fun q => V (ix3 (tn t) q n)) (fun q => I (ix3 (tn t) q n)) (fun j => D (ix3 (tn t) j n)) (perm ⟨256 * j.val + (64 * p.val + q.val), by omega⟩)
  rw [eperm, ld5_at, ld7_at, ld7b_at]
  unfold wSpec
  have c1 : (256 * j.val + 4 * q.val + p.val) / 4 = 64 * j.val + 0 + q.val := by omega
  have c2 : (256 * j.val + 4 * q.val + p.val) / 8 = 32 * j.val + 0 + q.val / 2 := by omega
  have c3 : (64 * j.val + 0 + q.val) % 2 = q.val % 2 := by omega
  have c4 : (256 * j.val + 4 * q.val + p.val) % 4 = p.val := by omega
  have c5 : (256 * j.val + 4 * q.val + p.val) / 128 = 2 * j.val + q.val / 32 := by omega
  simp only [c1, c2, c3, c4, c5]
  congr 1
  by_cases h : q.val < 32
  · rw [if_pos h]
    have : q.val / 32 = 0 := by omega
    simp only [this]
    rfl
  · rw [if_neg h]
    have : q.val / 32 = 1 := by omega
    simp only [this]
    rfl

/-- A tenant's decoded weights are the formula's, the rows reordered. -/
theorem wOf_at (t : Fin k0_t1_loop.trips) (V : Vec Ideal S17x640x256 .i8) (I : Vec Ideal S17x320x256 .i8) (D : Vec Ideal S17x20x256 .bf16)
    (hq : ∀ y h, h < 2 → QuadOK (half (I y) h)) (y : S2560x256.Idx) : wOf t V I D y = wG (tn t) V I D y := by
  refine View.canon_apply_of_pieces (wG (tn t) V I D) _ ?_ y (cover_pcsW t V I D y)
  unfold pcsW pcs35
  intro pc hpc
  simp only [List.mem_cons, List.not_mem_nil, _root_.or_false] at hpc
  rcases hpc with rfl | rfl | rfl | rfl | rfl | rfl | rfl | rfl | rfl | rfl
  · exact piece_at t V I D hq 9 2304 rfl inb_S2560x256_S256x256_2304_0
  · exact piece_at t V I D hq 8 2048 rfl inb_S2560x256_S256x256_2048_0
  · exact piece_at t V I D hq 7 1792 rfl inb_S2560x256_S256x256_1792_0
  · exact piece_at t V I D hq 6 1536 rfl inb_S2560x256_S256x256_1536_0
  · exact piece_at t V I D hq 5 1280 rfl inb_S2560x256_S256x256_1280_0
  · exact piece_at t V I D hq 4 1024 rfl inb_S2560x256_S256x256_1024_0
  · exact piece_at t V I D hq 3 768 rfl inb_S2560x256_S256x256_768_0
  · exact piece_at t V I D hq 2 512 rfl inb_S2560x256_S256x256_512_0
  · exact piece_at t V I D hq 1 256 rfl inb_S2560x256_S256x256_256_0
  · exact piece_at t V I D hq 0 0 rfl inb_S2560x256_S256x256_0_0

theorem pay6_at (x n : Fin 256) : k0_pay6 (ix2 x n) = IntOp.cmpi .eq (BitVec.ofNat 32 (4 * (n.val % 64) + n.val / 64)) (BitVec.ofNat 32 x.val) := by
  pointwise [k0_pay6]
  refine congrArg (fun w => IntOp.cmpi .eq w (BitVec.ofNat 32 x.val)) ?_
  revert n
  decide +kernel

theorem one_at : ∀ x : Fin 256, IntOp.cmpi .eq (BitVec.ofNat 32 x.val) (BitVec.ofNat 32 x.val) = 1#1 := by decide

/-- A stripe's column is the one the order names. -/
theorem stripe_at (X : FVec Ideal S1792x256 .bf16) (r : Fin 1792) (n : Fin 256) :
    stripe (F := Ideal) X (ix2 r n) = X (ix2 r ⟨4 * (n.val % 64) + n.val / 64, by omega⟩) := by
  have e : stripe (F := Ideal) X (ix2 r n) = ∑ x : Fin 256, (X (ix2 r x) : EReal) * FloatOps.sitofp (F := Ideal) .f32 (BitVec.setWidth 32 (k0_pay6 (ix2 x n))) := by
    pointwise [stripe, k0_pay7, k0_pay8]
  rw [e]
  refine (Finset.sum_eq_single (⟨4 * (n.val % 64) + n.val / 64, by omega⟩ : Fin 256) (fun x _ hx => ?_) (fun h => absurd (Finset.mem_univ _) h)).trans ?_
  · have h0 : k0_pay6 (ix2 x n) = 0#1 := by
      rw [pay6_at]
      have hne : BitVec.ofNat 32 (4 * (n.val % 64) + n.val / 64) ≠ BitVec.ofNat 32 x.val := fun h => hx (Fin.ext (by
        have h' := congrArg BitVec.toNat h
        rw [BitVec.toNat_ofNat, BitVec.toNat_ofNat] at h'
        show x.val = 4 * (n.val % 64) + n.val / 64
        have hn := n.isLt
        have hx' := x.isLt
        omega))
      show BitVec.ofBool (_ == _) = 0#1
      rw [beq_eq_false_iff_ne.2 hne]
      rfl
    rw [h0]
    show (X (ix2 r x) : EReal) * (((((0#1).setWidth 32).toInt : ℤ) : ℝ) : EReal) = 0
    simp
  · have h1 : k0_pay6 (ix2 ⟨4 * (n.val % 64) + n.val / 64, by omega⟩ n) = 1#1 := by
      rw [pay6_at]; exact one_at ⟨4 * (n.val % 64) + n.val / 64, by omega⟩
    rw [h1]
    show (X (ix2 r _) : EReal) * (((((1#1).setWidth 32).toInt : ℤ) : ℝ) : EReal) = _
    have : ((1#1).setWidth 32).toInt = 1 := by decide
    rw [this]
    simp

theorem xpiece_at (X : Vec Ideal S1792x2560 .bf16) (j : Fin 10) (o : ℕ) (ho : o = 256 * j.val)
    (inb : ∀ a, (![0, o] : Fin 2 → ℕ) a + S1792x256.size a ≤ S1792x2560.size a) (x : S1792x256.Idx) :
    stripe (F := Ideal) (View.ld X (Rect.unit (s := S1792x2560) ![0, o] S1792x256.size inb)) x
      = (fun y : S1792x2560.Idx => X (ix2 (y 0) (perm (y 1)))) ((Rect.unit (s := S1792x2560) ![0, o] S1792x256.size inb).emb x) := by
  subst ho
  have h1 : (x 1).val < 256 := (x 1).isLt
  have e : stripe (F := Ideal) (View.ld X (Rect.unit (s := S1792x2560) ![0, 256 * j.val] S1792x256.size inb)) x
      = View.ld X (Rect.unit (s := S1792x2560) ![0, 256 * j.val] S1792x256.size inb) (ix2 (x 0) ⟨4 * ((x 1).val % 64) + (x 1).val / 64, by omega⟩) := by
    conv_lhs => rw [eta2 x]
    exact stripe_at _ _ _
  rw [e]
  refine congrArg X ?_
  funext a
  match a with
  | ⟨0, _⟩ => rfl
  | ⟨1, _⟩ =>
    apply Fin.ext
    show 256 * j.val + 1 * (4 * ((x 1).val % 64) + (x 1).val / 64) = 256 * ((256 * j.val + 1 * (x 1).val) / 256) + 4 * ((256 * j.val + 1 * (x 1).val) % 64) + (256 * j.val + 1 * (x 1).val) % 256 / 64
    omega

/-- The reordered rows. -/
theorem xpOf_at (X : Vec Ideal S1792x2560 .bf16) (y : S1792x2560.Idx) : xpOf X y = X (ix2 (y 0) (perm (y 1))) := by
  refine View.canon_apply_of_pieces (fun y : S1792x2560.Idx => X (ix2 (y 0) (perm (y 1)))) _ ?_ y (cover_xpPcs X y)
  unfold xpPcs
  intro pc hpc
  simp only [List.mem_cons, List.not_mem_nil, _root_.or_false] at hpc
  rcases hpc with rfl | rfl | rfl | rfl | rfl | rfl | rfl | rfl | rfl | rfl
  · exact xpiece_at X 9 2304 rfl inb_S1792x2560_S1792x256_0_2304
  · exact xpiece_at X 8 2048 rfl inb_S1792x2560_S1792x256_0_2048
  · exact xpiece_at X 7 1792 rfl inb_S1792x2560_S1792x256_0_1792
  · exact xpiece_at X 6 1536 rfl inb_S1792x2560_S1792x256_0_1536
  · exact xpiece_at X 5 1280 rfl inb_S1792x2560_S1792x256_0_1280
  · exact xpiece_at X 4 1024 rfl inb_S1792x2560_S1792x256_0_1024
  · exact xpiece_at X 3 768 rfl inb_S1792x2560_S1792x256_0_768
  · exact xpiece_at X 2 512 rfl inb_S1792x2560_S1792x256_0_512
  · exact xpiece_at X 1 256 rfl inb_S1792x2560_S1792x256_0_256
  · exact xpiece_at X 0 0 rfl inb_S1792x2560_S1792x256_0_0

end Cert.Delta

end
-- ==== Proof.OutVal.lean ====
/- The block one grid point leaves, element by element, over the ideal numbers. -/
module

public import proofs.«01_k».proof.Proof.Acc
public import proofs.«01_k».proof.Proof.Weights

@[expose] public section

set_option maxRecDepth 8192

noncomputable section

namespace Cert.Delta

open Cert.KernelIdeal Cert.KernelIdeal.Gen
open Idealize.ShloMosaic Idealize.ShloMosaic.TcCoe

theorem off1_at : ∀ t : Fin k0_t1_loop.trips, k0_off1 t = ![t.val] := by decide +kernel
theorem off2_at : ∀ t : Fin k0_t1_loop.trips, k0_off2 t = ![1 + t.val] := by decide +kernel

theorem loW_at (T : Vec Ideal S18 .i32) (t : Fin k0_t1_loop.trips) : loW T t = T (ix1 ⟨(tn t).val, by omega⟩) := by
  unfold loW
  refine ld_at T _ _ _ _ _ fun a => ?_
  match a with
  | ⟨0, _⟩ =>
    show k0_off1 t 0 + 0 = t.val
    rw [Nat.add_zero, off1_at t]; rfl

theorem hiW_at (T : Vec Ideal S18 .i32) (t : Fin k0_t1_loop.trips) : hiW T t = T (ix1 ⟨1 + (tn t).val, by omega⟩) := by
  unfold hiW
  refine ld_at T _ _ _ _ _ fun a => ?_
  match a with
  | ⟨0, _⟩ =>
    show k0_off2 t 0 + 0 = 1 + t.val
    rw [Nat.add_zero, off2_at t]; rfl

section
variable (T : Vec Ideal S18 .i32) (hT : ∀ y, (T y : BitVec 32).toNat ≤ 1792) (X : Vec Ideal S1792x2560 .bf16) (V : Vec Ideal S17x640x256 .i8) (I : Vec Ideal S17x320x256 .i8)
  (D : Vec Ideal S17x20x256 .bf16) (hq : ∀ y h, h < 2 → QuadOK (half (I y) h))

/-- What one tenant adds to an element. -/
def addend (r : Fin 1792) (n : Fin 256) (t : Fin 17) : EReal :=
  if (T (ix1 ⟨t.val, by omega⟩) : BitVec 32).toNat ≤ r.val ∧ r.val < (T (ix1 ⟨1 + t.val, by omega⟩) : BitVec 32).toNat then
    ∑ k : Fin 2560, (wSpec (fun q => V (ix3 t q n)) (fun q => I (ix3 t q n)) (fun j => D (ix3 t j n)) k : EReal) * X (ix2 r k) else 0

include hq in
/-- The kernel's order of the columns does not change the product. -/
theorem rowDot_at (t : Fin k0_t1_loop.trips) (r : Fin 1792) (n : Fin 256) :
    rowDot (xpOf X) (wOf t V I D) r n = ∑ k : Fin 2560, (wSpec (fun q => V (ix3 (tn t) q n)) (fun q => I (ix3 (tn t) q n)) (fun j => D (ix3 (tn t) j n)) k : EReal) * X (ix2 r k) := by
  unfold rowDot
  refine Eq.trans (Finset.sum_congr rfl fun x _ => ?_) (perm_bijective.sum_comp (fun k : Fin 2560 => (wSpec (fun q => V (ix3 (tn t) q n)) (fun q => I (ix3 (tn t) q n)) (fun j => D (ix3 (tn t) j n)) k : EReal) * X (ix2 r k)))
  rw [xpOf_at, wOf_at t V I D hq]
  exact mul_comm _ _

include hT hq in
theorem accT_at (A : Vec Ideal S1792x256 .f32) (r : Fin 1792) (n : Fin 256) (k : ℕ) (hk : k ≤ 17) :
    accT T V I D (xpOf X) A k (ix2 r n) = (A (ix2 r n) : EReal) + ∑ t ∈ Finset.range k, if h : t < 17 then addend T X V I D r n ⟨t, h⟩ else 0 := by
  induction k with
  | zero => rw [Finset.sum_range_zero, add_zero]; rfl
  | succ k ih =>
    have hk' : k < k0_t1_loop.trips := trips17.symm ▸ hk
    refine (congrFun (accT_succ T V I D (xpOf X) A ⟨k, hk'⟩) (ix2 r n)).trans ?_
    refine (tenant_at (loW T ⟨k, hk'⟩) (hiW T ⟨k, hk'⟩) _ _ _ (WordsOK.lo hT ⟨k, hk'⟩) (WordsOK.hi hT ⟨k, hk'⟩) r n).trans ?_
    rw [ih (by omega), Finset.sum_range_succ, add_assoc, rowDot_at X V I D hq, dif_pos (show k < 17 by omega)]
    rw [loW_at, hiW_at]
    rfl

include hT hq in
/-- An element of the block a grid point leaves. -/
theorem outV_at (B : Vec Ideal S2560x256 .fp8e4m3) (S : Vec Ideal S1x256 .f32) (r : Fin 1792) (n : Fin 256) :
    outV T X (xpOf X) B S V I D (ix2 r n) = (∑ k : Fin 2560, (X (ix2 r k) : EReal) * B (ix2 k n)) * S (ix2 0 n) + ∑ t : Fin 17, addend T X V I D r n t := by
  have e : outV T X (xpOf X) B S V I D (ix2 r n) = accT T V I D (xpOf X) (k0_pay2 X B S) 17 (ix2 r n) := by
    unfold outV
    generalize accT T V I D (xpOf X) (k0_pay2 X B S) 17 = A
    pointwise [k0_pay5]
  have e2 : k0_pay2 X B S (ix2 r n) = (∑ k : Fin 2560, (X (ix2 r k) : EReal) * B (ix2 k n)) * S (ix2 0 n) := by
    pointwise [k0_pay2]
  rw [e, accT_at T hT X V I D hq _ r n 17 le_rfl, e2, ← Fin.sum_univ_eq_sum_range (fun t => if h : t < 17 then addend T X V I D r n ⟨t, h⟩ else 0) 17]
  exact congrArg (fun v : EReal => _ + v) (Finset.sum_congr rfl fun t _ => dif_pos t.isLt)

end

end Cert.Delta

end
-- ==== Proof.KerVal.lean ====
/- The kernel's result array, element by element, over the ideal numbers. -/
module

public import proofs.«01_k».proof.Proof.OutVal
public import proofs.«01_k».proof.Proof.Run
public import Idealize.ShloMosaic.Lib.Pipeline.ValueKit

@[expose] public section

set_option maxRecDepth 16384

noncomputable section

namespace Cert.Delta

open Cert.KernelIdeal Cert.KernelIdeal.Gen
open Idealize.ShloMosaic Idealize.ShloMosaic.TcCoe

variable (m : (ℓ : Loc nD τ sig) → Buf (Elt Ideal) ℓ)

/-- The column of the whole array under a column of a point's block. -/
def colAt (t : Fin 27) (n : Fin 256) : Fin 6912 := ⟨t.val * 256 + n.val, by omega⟩

/-- A point's number. -/
def pt (hO : Ok m) (t : Fin (cfgM m hO).N) : Fin 27 := ⟨t.val, lt_of_lt_of_eq t.isLt N_0⟩

theorem tr0 : ∀ t : Fin 27, cc0_transform_0 (grid0.coords t) = ![0, 0] := by decide +kernel
theorem emb0 (hO : Ok m) (t : Fin (cfgM m hO).N) (y : S1792x2560.Idx) : ((((cfgM m hO).win 0).blk t).view.emb y : S1792x2560.Idx) = ix2 (y 0) (y 1) := by
  funext a
  match a with
  | ⟨0, _⟩ =>
    apply Fin.ext
    show cc0_transform_0 (grid0.coords (pt m hO t)) 0 * 1792 + 1 * (y 0).val = (y 0).val
    rw [tr0 (pt m hO t)]
    show 0 * 1792 + 1 * (y 0).val = (y 0).val
    omega
  | ⟨1, _⟩ =>
    apply Fin.ext
    show cc0_transform_0 (grid0.coords (pt m hO t)) 1 * 2560 + 1 * (y 1).val = (y 1).val
    rw [tr0 (pt m hO t)]
    show 0 * 2560 + 1 * (y 1).val = (y 1).val
    omega
theorem iblk0 (hO : Ok m) (c : Dev nD) (t : Fin (cfgM m hO).N) (y : S1792x2560.Idx) : (iblk m hO c 0 t : Vec Ideal S1792x2560 .bf16) y = V m c main_v0 (ix2 (y 0) (y 1)) :=
  congrArg (V m c main_v0) (emb0 m hO t y)

theorem tr1 : ∀ t : Fin 27, cc0_transform_1 (grid0.coords t) = ![0, t.val] := by decide +kernel
theorem emb1 (hO : Ok m) (t : Fin (cfgM m hO).N) (y : S2560x256.Idx) : ((((cfgM m hO).win 1).blk t).view.emb y : S2560x6912.Idx) = ix2 (y 0) (colAt (pt m hO t) (y 1)) := by
  funext a
  match a with
  | ⟨0, _⟩ =>
    apply Fin.ext
    show cc0_transform_1 (grid0.coords (pt m hO t)) 0 * 2560 + 1 * (y 0).val = (y 0).val
    rw [tr1 (pt m hO t)]
    show 0 * 2560 + 1 * (y 0).val = (y 0).val
    omega
  | ⟨1, _⟩ =>
    apply Fin.ext
    show cc0_transform_1 (grid0.coords (pt m hO t)) 1 * 256 + 1 * (y 1).val = t.val * 256 + (y 1).val
    rw [tr1 (pt m hO t)]
    show t.val * 256 + 1 * (y 1).val = t.val * 256 + (y 1).val
    omega
theorem iblk1 (hO : Ok m) (c : Dev nD) (t : Fin (cfgM m hO).N) (y : S2560x256.Idx) : (iblk m hO c 1 t : Vec Ideal S2560x256 .fp8e4m3) y = V m c main_arg1 (ix2 (y 0) (colAt (pt m hO t) (y 1))) :=
  congrArg (V m c main_arg1) (emb1 m hO t y)

theorem tr2 : ∀ t : Fin 27, cc0_transform_2 (grid0.coords t) = ![0, t.val] := by decide +kernel
theorem emb2 (hO : Ok m) (t : Fin (cfgM m hO).N) (y : S1x256.Idx) : ((((cfgM m hO).win 2).blk t).view.emb y : S1x6912.Idx) = ix2 (y 0) (colAt (pt m hO t) (y 1)) := by
  funext a
  match a with
  | ⟨0, _⟩ =>
    apply Fin.ext
    show cc0_transform_2 (grid0.coords (pt m hO t)) 0 * 1 + 1 * (y 0).val = (y 0).val
    rw [tr2 (pt m hO t)]
    show 0 * 1 + 1 * (y 0).val = (y 0).val
    omega
  | ⟨1, _⟩ =>
    apply Fin.ext
    show cc0_transform_2 (grid0.coords (pt m hO t)) 1 * 256 + 1 * (y 1).val = t.val * 256 + (y 1).val
    rw [tr2 (pt m hO t)]
    show t.val * 256 + 1 * (y 1).val = t.val * 256 + (y 1).val
    omega
theorem iblk2 (hO : Ok m) (c : Dev nD) (t : Fin (cfgM m hO).N) (y : S1x256.Idx) : (iblk m hO c 2 t : Vec Ideal S1x256 .f32) y = V m c main_v1 (ix2 (y 0) (colAt (pt m hO t) (y 1))) :=
  congrArg (V m c main_v1) (emb2 m hO t y)

theorem tr3 : ∀ t : Fin 27, cc0_transform_3 (grid0.coords t) = ![0, 0, t.val] := by decide +kernel
theorem emb3 (hO : Ok m) (t : Fin (cfgM m hO).N) (y : S17x640x256.Idx) : ((((cfgM m hO).win 3).blk t).view.emb y : S17x640x6912.Idx) = ix3 (y 0) (y 1) (colAt (pt m hO t) (y 2)) := by
  funext a
  match a with
  | ⟨0, _⟩ =>
    apply Fin.ext
    show cc0_transform_3 (grid0.coords (pt m hO t)) 0 * 17 + 1 * (y 0).val = (y 0).val
    rw [tr3 (pt m hO t)]
    show 0 * 17 + 1 * (y 0).val = (y 0).val
    omega
  | ⟨1, _⟩ =>
    apply Fin.ext
    show cc0_transform_3 (grid0.coords (pt m hO t)) 1 * 640 + 1 * (y 1).val = (y 1).val
    rw [tr3 (pt m hO t)]
    show 0 * 640 + 1 * (y 1).val = (y 1).val
    omega
  | ⟨2, _⟩ =>
    apply Fin.ext
    show cc0_transform_3 (grid0.coords (pt m hO t)) 2 * 256 + 1 * (y 2).val = t.val * 256 + (y 2).val
    rw [tr3 (pt m hO t)]
    show t.val * 256 + 1 * (y 2).val = t.val * 256 + (y 2).val
    omega
theorem iblk3 (hO : Ok m) (c : Dev nD) (t : Fin (cfgM m hO).N) (y : S17x640x256.Idx) : (iblk m hO c 3 t : Vec Ideal S17x640x256 .i8) y = V m c main_arg3 (ix3 (y 0) (y 1) (colAt (pt m hO t) (y 2))) :=
  congrArg (V m c main_arg3) (emb3 m hO t y)

theorem tr4 : ∀ t : Fin 27, cc0_transform_4 (grid0.coords t) = ![0, 0, t.val] := by decide +kernel
theorem emb4 (hO : Ok m) (t : Fin (cfgM m hO).N) (y : S17x320x256.Idx) : ((((cfgM m hO).win 4).blk t).view.emb y : S17x320x6912.Idx) = ix3 (y 0) (y 1) (colAt (pt m hO t) (y 2)) := by
  funext a
  match a with
  | ⟨0, _⟩ =>
    apply Fin.ext
    show cc0_transform_4 (grid0.coords (pt m hO t)) 0 * 17 + 1 * (y 0).val = (y 0).val
    rw [tr4 (pt m hO t)]
    show 0 * 17 + 1 * (y 0).val = (y 0).val
    omega
  | ⟨1, _⟩ =>
    apply Fin.ext
    show cc0_transform_4 (grid0.coords (pt m hO t)) 1 * 320 + 1 * (y 1).val = (y 1).val
    rw [tr4 (pt m hO t)]
    show 0 * 320 + 1 * (y 1).val = (y 1).val
    omega
  | ⟨2, _⟩ =>
    apply Fin.ext
    show cc0_transform_4 (grid0.coords (pt m hO t)) 2 * 256 + 1 * (y 2).val = t.val * 256 + (y 2).val
    rw [tr4 (pt m hO t)]
    show t.val * 256 + 1 * (y 2).val = t.val * 256 + (y 2).val
    omega
theorem iblk4 (hO : Ok m) (c : Dev nD) (t : Fin (cfgM m hO).N) (y : S17x320x256.Idx) : (iblk m hO c 4 t : Vec Ideal S17x320x256 .i8) y = V m c main_arg4 (ix3 (y 0) (y 1) (colAt (pt m hO t) (y 2))) :=
  congrArg (V m c main_arg4) (emb4 m hO t y)

theorem tr5 : ∀ t : Fin 27, cc0_transform_5 (grid0.coords t) = ![0, 0, t.val] := by decide +kernel
theorem emb5 (hO : Ok m) (t : Fin (cfgM m hO).N) (y : S17x20x256.Idx) : ((((cfgM m hO).win 5).blk t).view.emb y : S17x20x6912.Idx) = ix3 (y 0) (y 1) (colAt (pt m hO t) (y 2)) := by
  funext a
  match a with
  | ⟨0, _⟩ =>
    apply Fin.ext
    show cc0_transform_5 (grid0.coords (pt m hO t)) 0 * 17 + 1 * (y 0).val = (y 0).val
    rw [tr5 (pt m hO t)]
    show 0 * 17 + 1 * (y 0).val = (y 0).val
    omega
  | ⟨1, _⟩ =>
    apply Fin.ext
    show cc0_transform_5 (grid0.coords (pt m hO t)) 1 * 20 + 1 * (y 1).val = (y 1).val
    rw [tr5 (pt m hO t)]
    show 0 * 20 + 1 * (y 1).val = (y 1).val
    omega
  | ⟨2, _⟩ =>
    apply Fin.ext
    show cc0_transform_5 (grid0.coords (pt m hO t)) 2 * 256 + 1 * (y 2).val = t.val * 256 + (y 2).val
    rw [tr5 (pt m hO t)]
    show t.val * 256 + 1 * (y 2).val = t.val * 256 + (y 2).val
    omega
theorem iblk5 (hO : Ok m) (c : Dev nD) (t : Fin (cfgM m hO).N) (y : S17x20x256.Idx) : (iblk m hO c 5 t : Vec Ideal S17x20x256 .bf16) y = V m c main_arg5 (ix3 (y 0) (y 1) (colAt (pt m hO t) (y 2))) :=
  congrArg (V m c main_arg5) (emb5 m hO t y)

theorem tr6 : ∀ t : Fin 27, cc0_transform_6 (grid0.coords t) = ![0, t.val] := by decide +kernel
theorem emb6 (hO : Ok m) (t : Fin (cfgM m hO).N) (y : S1792x256.Idx) : ((((cfgM m hO).win 6).blk t).view.emb y : S1792x6912.Idx) = ix2 (y 0) (colAt (pt m hO t) (y 1)) := by
  funext a
  match a with
  | ⟨0, _⟩ =>
    apply Fin.ext
    show cc0_transform_6 (grid0.coords (pt m hO t)) 0 * 1792 + 1 * (y 0).val = (y 0).val
    rw [tr6 (pt m hO t)]
    show 0 * 1792 + 1 * (y 0).val = (y 0).val
    omega
  | ⟨1, _⟩ =>
    apply Fin.ext
    show cc0_transform_6 (grid0.coords (pt m hO t)) 1 * 256 + 1 * (y 1).val = t.val * 256 + (y 1).val
    rw [tr6 (pt m hO t)]
    show t.val * 256 + 1 * (y 1).val = t.val * 256 + (y 1).val
    omega

theorem V_v0 (c : Dev nD) : V m c main_v0 = shapeCast S1792x2560 (m ((c : Thread nD τ).loc main_arg0)) shapeCasts_S14x128x2560_S1792x2560 := by
  rfl

theorem cast_v1 (S : Vec Ideal S6912 .f32) (n : Fin 6912) : shapeCast S1x6912 S shapeCasts_S6912_S1x6912 (ix2 0 n) = S (ix1 n) := by
  first | (pointwise [id]; done) | (pointwise; done) | (simp; done)

theorem V_v1 (c : Dev nD) (n : Fin 6912) : V m c main_v1 (ix2 0 n) = m ((c : Thread nD τ).loc main_arg2) (ix1 n) :=
  cast_v1 (m ((c : Thread nD τ).loc main_arg2)) n

/-- The result, as a function of the whole arrays. -/
def G (X : Vec Ideal S1792x2560 .bf16) (B : Vec Ideal S2560x6912 .fp8e4m3) (S : Vec Ideal S6912 .f32) (U : Vec Ideal S17x640x6912 .i8) (I : Vec Ideal S17x320x6912 .i8)
    (D : Vec Ideal S17x20x6912 .bf16) (T : Vec Ideal S18 .i32) (r : Fin 1792) (n : Fin 6912) : EReal :=
  (∑ k : Fin 2560, (X (ix2 r k) : EReal) * B (ix2 k n)) * S (ix1 n)
    + ∑ t : Fin 17, if (T (ix1 ⟨t.val, by omega⟩) : BitVec 32).toNat ≤ r.val ∧ r.val < (T (ix1 ⟨1 + t.val, by omega⟩) : BitVec 32).toNat then
        ∑ k : Fin 2560, (wSpec (fun q => U (ix3 t q n)) (fun q => I (ix3 t q n)) (fun j => D (ix3 t j n)) k : EReal) * X (ix2 r k) else 0

/-- `G` of the launch memory's arrays. -/
abbrev GM (c : Dev nD) (r : Fin 1792) (n : Fin 6912) : EReal :=
  G (V m c main_v0) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) r n

theorem outAt_at (hO : Ok m) (c : Dev nD) (hT : ∀ y, (m ((c : Thread nD τ).loc main_arg6) y : BitVec 32).toNat ≤ 1792)
    (hq : ∀ y h, h < 2 → QuadOK (half (m ((c : Thread nD τ).loc main_arg4) y) h)) (t : Fin (cfgM m hO).N) (r : Fin 1792) (n : Fin 256) :
    outAt m hO c t (ix2 r n) = GM m c r (colAt (pt m hO t) n) := by
  obtain rfl : c = 0 := Subsingleton.elim _ _
  have e6 : tbM0_0.view.read (Elt Ideal) (tbl m 0) = m (((0 : Dev nD) : Thread nD τ).loc main_arg6) := rfl
  have hq' : ∀ (y : S17x320x256.Idx) h, h < 2 → QuadOK (half ((iblk m hO 0 4 t : Vec Ideal S17x320x256 .i8) y) h) := fun y h hh => by
    rw [iblk4]; exact hq _ h hh
  refine (outV_at (tbM0_0.view.read (Elt Ideal) (tbl m 0)) hT (iblk m hO 0 0 t) (iblk m hO 0 3 t) (iblk m hO 0 4 t) (iblk m hO 0 5 t) hq' (iblk m hO 0 1 t) (iblk m hO 0 2 t) r n).trans ?_
  unfold GM G addend
  simp only [iblk0, iblk1, iblk2, iblk3, iblk4, iblk5]
  rw [e6]
  refine congrArg₂ (fun u v : EReal => u + v) (congrArg₂ (fun u v : EReal => u * v) rfl (V_v1 m 0 _)) rfl

/-- The kernel's result array. -/
theorem outArr_at (hO : Ok m) (c : Dev nD) (hT : ∀ y, (m ((c : Thread nD τ).loc main_arg6) y : BitVec 32).toNat ≤ 1792)
    (hq : ∀ y h, h < 2 → QuadOK (half (m ((c : Thread nD τ).loc main_arg4) y) h)) :
    outArr m hO c = fun y : S1792x6912.Idx => GM m c (y 0) (y 1) := by
  unfold outArr
  refine (dats m hO 0 c).arrAt_eq_of_emb 6 (fun y : S1792x6912.Idx => GM m c (y 0) (y 1)) (fun t hf (y : S1792x256.Idx) => ?_) (fun (i : S1792x6912.Idx) => ?_)
  · rw [emb6 m hO t y]
    show (dats m hO 0 c).after 6 t y = _
    rw [after0_6]
    refine (congrArg (outAt m hO c t) (eta2 y)).trans ?_
    exact outAt_at m hO c hT hq t (y 0) (y 1)
  · have h1 : (i 1).val < 6912 := (i 1).isLt
    obtain ⟨t, ht⟩ : ∃ t : Fin (cfgM m hO).N, t.val = (i 1).val / 256 := ⟨⟨(i 1).val / 256, lt_of_lt_of_eq (by omega : (i 1).val / 256 < 27) N_0.symm⟩, rfl⟩
    have e : ((((cfgM m hO).win 6).blk t).view.emb (ix2 (i 0) ⟨(i 1).val % 256, Nat.mod_lt _ (by decide)⟩ : S1792x256.Idx) : S1792x6912.Idx) = i := by
      refine (emb6 m hO t _).trans ?_
      funext a
      match a with
      | ⟨0, _⟩ => rfl
      | ⟨1, _⟩ =>
        apply Fin.ext
        show t.val * 256 + (i 1).val % 256 = (i 1).val
        omega
    have hm := View.emb_mem_set (((cfgM m hO).win 6).blk t).view (ix2 (i 0) ⟨(i 1).val % 256, Nat.mod_lt _ (by decide)⟩ : S1792x256.Idx)
    exact ⟨t, flush0_6 _ t, e ▸ hm⟩

end Cert.Delta

end
-- ==== Proof.RefVal.lean ====
/- The reference's result at an element, over the ideal numbers. -/
module

public import proofs.«01_k».proof.Proof.Gen.ReferenceIdeal.Read
public import proofs.«01_k».proof.Proof.Spec

@[expose] public section

set_option maxRecDepth 8192

noncomputable section

namespace Cert.ReferenceIdeal.Read

open Cert.ReferenceIdeal Cert.ReferenceIdeal.Gen Cert.Delta Idealize.ShloMosaic Idealize.ShloMosaic.TcCoe Idealize.SL.Sem Idealize.ShloMosaic.StableHlo

theorem v16_at (x3 : (⟨S17x640x6912, .i8⟩ : BufTy).Contents (Elt Ideal)) (t : Fin 17) (j : Fin 20) (q : Fin 32) (n : Fin 6912) : val_main_v16 (F := Ideal) x3 (ix5 t j q 0 n) = val_main_v15 (F := Ideal) x3 (ix3 t ⟨32 * j.val + q.val, by omega⟩ n) := by
  refine (val_main_v16_apply x3 _).trans (congrArg (val_main_v15 x3) ?_)
  funext a
  match a with
  | ⟨0, _⟩ => apply Fin.ext; show ((((t.val * 20 + j.val) * 32 + q.val) * 1 + 0) * 6912 + n.val) / _ = t.val; omega
  | ⟨1, _⟩ => apply Fin.ext; show ((((t.val * 20 + j.val) * 32 + q.val) * 1 + 0) * 6912 + n.val) / _ % _ = 32 * j.val + q.val; omega
  | ⟨2, _⟩ => apply Fin.ext; show ((((t.val * 20 + j.val) * 32 + q.val) * 1 + 0) * 6912 + n.val) % _ = n.val; omega

theorem v25_at (x3 : (⟨S17x640x6912, .i8⟩ : BufTy).Contents (Elt Ideal)) (t : Fin 17) (j : Fin 20) (q : Fin 32) (n : Fin 6912) : val_main_v25 (F := Ideal) x3 (ix5 t j q 0 n) = val_main_v24 (F := Ideal) x3 (ix3 t ⟨32 * j.val + q.val, by omega⟩ n) := by
  refine (val_main_v25_apply x3 _).trans (congrArg (val_main_v24 x3) ?_)
  funext a
  match a with
  | ⟨0, _⟩ => apply Fin.ext; show ((((t.val * 20 + j.val) * 32 + q.val) * 1 + 0) * 6912 + n.val) / _ = t.val; omega
  | ⟨1, _⟩ => apply Fin.ext; show ((((t.val * 20 + j.val) * 32 + q.val) * 1 + 0) * 6912 + n.val) / _ % _ = 32 * j.val + q.val; omega
  | ⟨2, _⟩ => apply Fin.ext; show ((((t.val * 20 + j.val) * 32 + q.val) * 1 + 0) * 6912 + n.val) % _ = n.val; omega

theorem v35_at (x4 : (⟨S17x320x6912, .i8⟩ : BufTy).Contents (Elt Ideal)) (t : Fin 17) (j : Fin 20) (q : Fin 32) (n : Fin 6912) : val_main_v35 (F := Ideal) x4 (ix5 t j q 0 n) = val_main_v34 (F := Ideal) x4 (ix4 t ⟨16 * j.val + q.val / 2, by omega⟩ ⟨q.val % 2, by omega⟩ n) := by
  refine (val_main_v35_apply x4 _).trans (congrArg (val_main_v34 x4) ?_)
  funext a
  match a with
  | ⟨0, _⟩ => apply Fin.ext; show ((((t.val * 20 + j.val) * 32 + q.val) * 1 + 0) * 6912 + n.val) / _ = t.val; omega
  | ⟨1, _⟩ => apply Fin.ext; show ((((t.val * 20 + j.val) * 32 + q.val) * 1 + 0) * 6912 + n.val) / _ % _ = 16 * j.val + q.val / 2; omega
  | ⟨2, _⟩ => apply Fin.ext; show ((((t.val * 20 + j.val) * 32 + q.val) * 1 + 0) * 6912 + n.val) / _ % _ = q.val % 2; omega
  | ⟨3, _⟩ => apply Fin.ext; show ((((t.val * 20 + j.val) * 32 + q.val) * 1 + 0) * 6912 + n.val) % _ = n.val; omega

theorem v47_at (x4 : (⟨S17x320x6912, .i8⟩ : BufTy).Contents (Elt Ideal)) (t : Fin 17) (j : Fin 20) (q : Fin 32) (n : Fin 6912) : val_main_v47 (F := Ideal) x4 (ix5 t j q 0 n) = val_main_v46 (F := Ideal) x4 (ix4 t ⟨16 * j.val + q.val / 2, by omega⟩ ⟨q.val % 2, by omega⟩ n) := by
  refine (val_main_v47_apply x4 _).trans (congrArg (val_main_v46 x4) ?_)
  funext a
  match a with
  | ⟨0, _⟩ => apply Fin.ext; show ((((t.val * 20 + j.val) * 32 + q.val) * 1 + 0) * 6912 + n.val) / _ = t.val; omega
  | ⟨1, _⟩ => apply Fin.ext; show ((((t.val * 20 + j.val) * 32 + q.val) * 1 + 0) * 6912 + n.val) / _ % _ = 16 * j.val + q.val / 2; omega
  | ⟨2, _⟩ => apply Fin.ext; show ((((t.val * 20 + j.val) * 32 + q.val) * 1 + 0) * 6912 + n.val) / _ % _ = q.val % 2; omega
  | ⟨3, _⟩ => apply Fin.ext; show ((((t.val * 20 + j.val) * 32 + q.val) * 1 + 0) * 6912 + n.val) % _ = n.val; omega

theorem v15_at (x3 : (⟨S17x640x6912, .i8⟩ : BufTy).Contents (Elt Ideal)) (t : Fin 17) (q : Fin 640) (n : Fin 6912) : val_main_v15 (F := Ideal) x3 (ix3 t q n) = nibF (half (x3 (ix3 t q n)) 0) := by
  refine Eq.trans ?_ (congrArg (FloatOps.sitofp (F := Ideal) .bf16) (lo_decode (x3 (ix3 t q n))))
  pointwise [val_main_v15, val_main_v14, val_main_v13, val_main_v12, val_main_v11, val_main_v10, val_main_v9, val_main_v8, val_main_v7, val_main_v6, val_main_c, val_main_c_0, val_main_c_1]

theorem v24_at (x3 : (⟨S17x640x6912, .i8⟩ : BufTy).Contents (Elt Ideal)) (t : Fin 17) (q : Fin 640) (n : Fin 6912) : val_main_v24 (F := Ideal) x3 (ix3 t q n) = nibF (half (x3 (ix3 t q n)) 1) := by
  refine Eq.trans ?_ (congrArg (FloatOps.sitofp (F := Ideal) .bf16) (hi_decode (x3 (ix3 t q n))))
  pointwise [val_main_v24, val_main_v23, val_main_v22, val_main_v21, val_main_v20, val_main_v19, val_main_v18, val_main_v17, val_main_v6, val_main_c_2, val_main_c_3, val_main_c_4]

theorem v34_at (x4 : (⟨S17x320x6912, .i8⟩ : BufTy).Contents (Elt Ideal)) (t : Fin 17) (q : Fin 320) (h : Fin 2) (n : Fin 6912) : val_main_v34 (F := Ideal) x4 (ix4 t q h n) = (half (x4 (ix3 t q n)) h.val &&& 3#4).setWidth 32 := by
  have e : val_main_v34 (F := Ideal) x4 (ix4 t q h n) = if _h : h.val < 1 then IntOp.andi (BitVec.setWidth 32 (x4 (ix3 t q n))) 3#32 else IntOp.andi (IntOp.shrsi .host (BitVec.setWidth 32 (x4 (ix3 t q n))) 4#32) 3#32 := by
    pointwise [val_main_v34, val_main_v33, val_main_v32, val_main_v31, val_main_v30, val_main_v29, val_main_v28, val_main_v27, val_main_v26, val_main_v7, val_main_c_5, val_main_c_6, val_main_c_7]
  rw [e]
  match h with
  | ⟨0, _⟩ => exact (dif_pos (show (0 : ℕ) < 1 from Nat.zero_lt_one)).trans (idx0_lo _)
  | ⟨1, _⟩ => exact (dif_neg (show ¬ (1 : ℕ) < 1 from Nat.lt_irrefl 1)).trans (idx0_hi _)

theorem v46_at (x4 : (⟨S17x320x6912, .i8⟩ : BufTy).Contents (Elt Ideal)) (t : Fin 17) (q : Fin 320) (h : Fin 2) (n : Fin 6912) : val_main_v46 (F := Ideal) x4 (ix4 t q h n) = (half (x4 (ix3 t q n)) h.val >>> 2).setWidth 32 := by
  have e : val_main_v46 (F := Ideal) x4 (ix4 t q h n) = if _h : h.val < 1 then IntOp.andi (IntOp.shrsi .host (BitVec.setWidth 32 (x4 (ix3 t q n))) 2#32) 3#32 else IntOp.andi (IntOp.shrsi .host (BitVec.setWidth 32 (x4 (ix3 t q n))) 6#32) 3#32 := by
    pointwise [val_main_v46, val_main_v45, val_main_v44, val_main_v43, val_main_v42, val_main_v41, val_main_v40, val_main_v39, val_main_v38, val_main_v37, val_main_v36, val_main_v7, val_main_c_8, val_main_c_9, val_main_c_10, val_main_c_11]
  rw [e]
  match h with
  | ⟨0, _⟩ => exact (dif_pos (show (0 : ℕ) < 1 from Nat.zero_lt_one)).trans (idx1_lo _)
  | ⟨1, _⟩ => exact (dif_neg (show ¬ (1 : ℕ) < 1 from Nat.lt_irrefl 1)).trans (idx1_hi _)

theorem v51_at (x4 : (⟨S17x320x6912, .i8⟩ : BufTy).Contents (Elt Ideal)) (t : Fin 17) (j : Fin 20) (q : Fin 32) (p : Fin 4) (n : Fin 6912) : val_main_v51 (F := Ideal) x4 (ix5 t j q p n) = val_main_v35 (F := Ideal) x4 (ix5 t j q 0 n) := by
  refine (val_main_v51_apply x4 _).trans (congrArg (val_main_v35 x4) ?_)
  funext a; match a with | ⟨0, _⟩ => rfl | ⟨1, _⟩ => rfl | ⟨2, _⟩ => rfl | ⟨3, _⟩ => rfl | ⟨4, _⟩ => rfl

theorem v55_at (x4 : (⟨S17x320x6912, .i8⟩ : BufTy).Contents (Elt Ideal)) (t : Fin 17) (j : Fin 20) (q : Fin 32) (p : Fin 4) (n : Fin 6912) : val_main_v55 (F := Ideal) x4 (ix5 t j q p n) = val_main_v47 (F := Ideal) x4 (ix5 t j q 0 n) := by
  refine (val_main_v55_apply x4 _).trans (congrArg (val_main_v47 x4) ?_)
  funext a; match a with | ⟨0, _⟩ => rfl | ⟨1, _⟩ => rfl | ⟨2, _⟩ => rfl | ⟨3, _⟩ => rfl | ⟨4, _⟩ => rfl

theorem call3_v0_at (x3 : (⟨S17x640x6912, .i8⟩ : BufTy).Contents (Elt Ideal)) (t : Fin 17) (j : Fin 20) (q : Fin 32) (p : Fin 4) (n : Fin 6912) : val_main_call3_v0 (F := Ideal) x3 (ix5 t j q p n) = val_main_v16 (F := Ideal) x3 (ix5 t j q 0 n) := by
  refine (val_main_call3_v0_apply x3 _).trans (congrArg (val_main_v16 x3) ?_)
  funext a; match a with | ⟨0, _⟩ => rfl | ⟨1, _⟩ => rfl | ⟨2, _⟩ => rfl | ⟨3, _⟩ => rfl | ⟨4, _⟩ => rfl

theorem call2_v0_at (x3 : (⟨S17x640x6912, .i8⟩ : BufTy).Contents (Elt Ideal)) (t : Fin 17) (j : Fin 20) (q : Fin 32) (p : Fin 4) (n : Fin 6912) : val_main_call2_v0 (F := Ideal) x3 (ix5 t j q p n) = val_main_v25 (F := Ideal) x3 (ix5 t j q 0 n) := by
  refine (val_main_call2_v0_apply x3 _).trans (congrArg (val_main_v25 x3) ?_)
  funext a; match a with | ⟨0, _⟩ => rfl | ⟨1, _⟩ => rfl | ⟨2, _⟩ => rfl | ⟨3, _⟩ => rfl | ⟨4, _⟩ => rfl

theorem v52_at (t : Fin 17) (j : Fin 20) (q : Fin 32) (p : Fin 4) (n : Fin 6912) : val_main_v52 (F := Ideal) (ix5 t j q p n) = BitVec.ofNat 32 p.val := by
  rw [val_main_v52_apply, val_main_v50_apply, val_main_v49_apply, val_main_v48_apply]
  rfl

theorem v56_at (t : Fin 17) (j : Fin 20) (q : Fin 32) (p : Fin 4) (n : Fin 6912) : val_main_v56 (F := Ideal) (ix5 t j q p n) = BitVec.ofNat 32 p.val := by
  rw [val_main_v56_apply, val_main_v54_apply, val_main_v49_apply, val_main_v48_apply]
  rfl

theorem v61_at (x5 : (⟨S17x20x6912, .bf16⟩ : BufTy).Contents (Elt Ideal)) (t : Fin 17) (j : Fin 20) (q : Fin 32) (p : Fin 4) (n : Fin 6912) : val_main_v61 (F := Ideal) x5 (ix5 t j q p n) = x5 (ix3 t j n) := by
  rw [val_main_v61_apply, val_main_v60_apply]
  refine congrArg x5 ?_
  funext a; match a with | ⟨0, _⟩ => rfl | ⟨1, _⟩ => rfl | ⟨2, _⟩ => rfl

theorem v62_at (x3 : (⟨S17x640x6912, .i8⟩ : BufTy).Contents (Elt Ideal)) (x4 : (⟨S17x320x6912, .i8⟩ : BufTy).Contents (Elt Ideal)) (x5 : (⟨S17x20x6912, .bf16⟩ : BufTy).Contents (Elt Ideal)) (t : Fin 17) (j : Fin 20) (q : Fin 32) (p : Fin 4) (n : Fin 6912) : val_main_v62 (F := Ideal) x3 x4 x5 (ix5 t j q p n)
    = Scalar.select (IntOp.cmpi .eq (val_main_v35 (F := Ideal) x4 (ix5 t j q 0 n)) (BitVec.ofNat 32 p.val)) (val_main_v16 (F := Ideal) x3 (ix5 t j q 0 n))
        (Scalar.select (IntOp.cmpi .eq (val_main_v47 (F := Ideal) x4 (ix5 t j q 0 n)) (BitVec.ofNat 32 p.val)) (val_main_v25 (F := Ideal) x3 (ix5 t j q 0 n)) (0 : Ideal .bf16)) * x5 (ix3 t j n) := by
  have hz : val_main_call2_v1 (F := Ideal) (ix5 t j q p n) = (0 : Ideal .bf16) := by
    rw [val_main_call2_v1_apply, val_main_cst_apply]
    exact Ideal.ofBits_zero_bf16
  rw [val_main_v62_apply, val_main_v59_apply, v61_at, val_main_v58_apply, val_main_v53_apply, val_main_v57_apply, v51_at, v55_at, call3_v0_at, call2_v0_at, v52_at, v56_at, hz]
  rfl

/-- The decoded weight of the reference is the shared one. -/
theorem v63_at (x3 : (⟨S17x640x6912, .i8⟩ : BufTy).Contents (Elt Ideal)) (x4 : (⟨S17x320x6912, .i8⟩ : BufTy).Contents (Elt Ideal)) (x5 : (⟨S17x20x6912, .bf16⟩ : BufTy).Contents (Elt Ideal)) (t : Fin 17) (k : Fin 2560) (n : Fin 6912) :
    val_main_v63 (F := Ideal) x3 x4 x5 (ix3 t k n) = wSpec (fun q => x3 (ix3 t q n)) (fun q => x4 (ix3 t q n)) (fun j => x5 (ix3 t j n)) k := by
  have e : val_main_v63 (F := Ideal) x3 x4 x5 (ix3 t k n) = val_main_v62 (F := Ideal) x3 x4 x5 (ix5 t ⟨k.val / 128, by omega⟩ ⟨k.val % 128 / 4, by omega⟩ ⟨k.val % 4, by omega⟩ n) := by
    refine (val_main_v63_apply x3 x4 x5 _).trans (congrArg (val_main_v62 x3 x4 x5) ?_)
    funext a
    match a with
    | ⟨0, _⟩ => apply Fin.ext; show ((t.val * 2560 + k.val) * 6912 + n.val) / _ = t.val; omega
    | ⟨1, _⟩ => apply Fin.ext; show ((t.val * 2560 + k.val) * 6912 + n.val) / _ % _ = k.val / 128; omega
    | ⟨2, _⟩ => apply Fin.ext; show ((t.val * 2560 + k.val) * 6912 + n.val) / _ % _ = k.val % 128 / 4; omega
    | ⟨3, _⟩ => apply Fin.ext; show ((t.val * 2560 + k.val) * 6912 + n.val) / _ % _ = k.val % 4; omega
    | ⟨4, _⟩ => apply Fin.ext; show ((t.val * 2560 + k.val) * 6912 + n.val) % _ = n.val; omega
  have c4 : 32 * (k.val / 128) + k.val % 128 / 4 = k.val / 4 := by omega
  have c8 : 16 * (k.val / 128) + k.val % 128 / 4 / 2 = k.val / 8 := by omega
  have cp : k.val % 128 / 4 % 2 = k.val / 4 % 2 := by omega
  rw [e, v62_at, v35_at, v47_at, v16_at, v25_at, v15_at, v24_at, v34_at, v46_at, select_decode]
  simp only [c4, c8, cp]
  rfl

/-- One element of the reference's result. -/
theorem ref_val (x0 : (⟨S14x128x2560, .bf16⟩ : BufTy).Contents (Elt Ideal)) (x2 : (⟨S6912, .f32⟩ : BufTy).Contents (Elt Ideal)) (x3 : (⟨S17x640x6912, .i8⟩ : BufTy).Contents (Elt Ideal)) (x4 : (⟨S17x320x6912, .i8⟩ : BufTy).Contents (Elt Ideal)) (x5 : (⟨S17x20x6912, .bf16⟩ : BufTy).Contents (Elt Ideal))
    (x6 : (⟨S18, .i32⟩ : BufTy).Contents (Elt Ideal)) (r0 : (⟨S2560x6912, .bf16⟩ : BufTy).Contents (Elt Ideal)) (hw : ∀ y, (x6 y).toNat ≤ 1792) (r : Fin 1792) (n : Fin 6912) :
    val_main_v83 (F := Ideal) x0 x2 x3 x4 x5 x6 r0 (ix2 r n) =
      (∑ k : Fin 2560, (val_main_v1 (F := Ideal) x0 (ix2 r k) : EReal) * r0 (ix2 k n)) * (x2 (ix1 n) : EReal)
        + ∑ t : Fin 17, if (x6 (ix1 ⟨t.val, by omega⟩)).toNat ≤ r.val ∧ r.val < (x6 (ix1 ⟨1 + t.val, by omega⟩)).toNat then
            ∑ k : Fin 2560, (wSpec (fun q => x3 (ix3 t q n)) (fun q => x4 (ix3 t q n)) (fun j => x5 (ix3 t j n)) k : EReal) * val_main_v1 (F := Ideal) x0 (ix2 r k) else 0 := by
  have e : val_main_v83 (F := Ideal) x0 x2 x3 x4 x5 x6 r0 (ix2 r n) =
      (∑ k : Fin 2560, (val_main_v1 (F := Ideal) x0 (ix2 r k) : EReal) * r0 (ix2 k n)) * (x2 (ix1 n) : EReal)
        + ∑ t : Fin 17, Scalar.select (IntOp.andi (IntOp.cmpi .sge (BitVec.ofNat 32 r.val) (x6 (ix1 ⟨t.val, by omega⟩))) (IntOp.cmpi .slt (BitVec.ofNat 32 r.val) (x6 (ix1 ⟨1 + t.val, by omega⟩))))
            (∑ k : Fin 2560, (val_main_v63 (F := Ideal) x3 x4 x5 (ix3 t k n) : EReal) * val_main_v1 (F := Ideal) x0 (ix2 r k)) (id (constant (F := Ideal) S_ .f32 0#32) ix0) := by
    pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v5, val_main_v4, val_main_v3, val_main_v2, val_main_call4_v0, val_main_call4_v1, val_main_call4_v2, val_main_cst_12, val_main_cst_13]
  rw [e]
  congr 1
  refine Finset.sum_congr rfl fun t _ => ?_
  rw [in_range r.val r.isLt _ _ (hw _) (hw _), select_ite]
  have hz : id (constant (F := Ideal) S_ .f32 0#32) ix0 = (0 : EReal) := Ideal.ofBits_zero_f32
  rw [hz]
  refine ite_congr rfl (fun _ => ?_) (fun _ => rfl)
  exact Finset.sum_congr rfl fun k _ => congrArg (· * _) (v63_at x3 x4 x5 t k n)

end Cert.ReferenceIdeal.Read

end
-- ==== Proof.RefWiden.lean ====
/- The reference's one region: the base weights, cast to the rows' type, over the ideal numbers. -/
module

public import proofs.«01_k».proof.Proof.Gen.ReferenceIdeal.Run
public import Idealize.ShloMosaic.Lib.Pipeline.ValueKit

@[expose] public section

set_option maxRecDepth 16384

noncomputable section

namespace Cert.Delta.Ref

open Cert.ReferenceIdeal Cert.ReferenceIdeal.Gen
open Idealize.ShloMosaic Idealize.ShloMosaic.TcCoe

variable (m : (ℓ : Loc nD τ sig) → Buf (Elt Ideal) ℓ)

theorem reg_v0 (c : Dev nD) (y : S2560x6912.Idx) : (Cert.ReferenceIdeal.Value.reg_main_v0 (F := Ideal) m c y : EReal) = m ((c : Thread nD τ).loc main_arg1) y := by
  have e : Cert.ReferenceIdeal.Value.reg_main_v0 (F := Ideal) m c = (fun y : S2560x6912.Idx => (m ((c : Thread nD τ).loc main_arg1) y : EReal)) := by
    unfold Cert.ReferenceIdeal.Value.reg_main_v0
    refine (Gen.dats m 0 c).arrAt_eq_of_covers 1 _ (by decide +kernel) fun t hf y => ?_
    blk_simp
    rw [after0_1]
    frame_out
    show (iblk m c 0 t y : EReal) = _
    blk_simp [iblk]
    refine congrArg (m ((c : Thread nD τ).loc main_arg1)) ?_
    blk_ext [(by decide +kernel : ∀ t : Fin grid0.N, win0_0.index t = ![0, 0]), (by decide +kernel : ∀ t : Fin grid0.N, win0_1.index t = ![0, 0])]
  rw [e]

end Cert.Delta.Ref

end
-- ==== Proof.lean ====
/- The certificate: each claim of Defs.lean, from the frame runs and the value argument of the modules below. -/
module

public import proofs.«01_k».proof.Defs
public import proofs.«01_k».proof.Proof.Run
public import proofs.«01_k».proof.Proof.Twin
public import proofs.«01_k».proof.Proof.Pre
public import proofs.«01_k».proof.Proof.PreKept
public import proofs.«01_k».proof.Proof.KerVal
public import proofs.«01_k».proof.Proof.RefVal
public import proofs.«01_k».proof.Proof.RefWiden
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_offsets_in_rows
public import proofs.«01_k».proof.Proof.Gen.Pre_kept_pairs
public import Idealize.ShloMosaic.Adequacy
public import Idealize.ShloMosaic.Init

@[expose] public section

noncomputable section

namespace Cert.Proof

open Idealize.ShloMosaic Idealize.ShloMosaic.TcCoe Idealize.SL.Sem

/-- The offsets the kernel reads are words of at most the row count. -/
theorem words_ok {F : FTy → Type} [FloatOps F] (m : (ℓ : Loc Cert.KernelIdeal.nD Cert.KernelIdeal.τ Cert.KernelIdeal.sig) → Buf (Elt F) ℓ)
    (h : ∀ y, (m (((0 : Dev Cert.KernelIdeal.nD).tc : Thread Cert.KernelIdeal.nD Cert.KernelIdeal.τ).loc Cert.KernelIdeal.main_arg6) y : BitVec 32).toNat ≤ 1792) :
    Cert.Delta.WordsOK (F := F) (Cert.KernelIdeal.Gen.tbM0_0.view.read (Elt F) (Cert.KernelIdeal.Gen.tbl m 0)) := by
  intro y
  have e : Cert.KernelIdeal.Gen.tbl m 0 = m (((0 : Dev Cert.KernelIdeal.nD).tc : Thread Cert.KernelIdeal.nD Cert.KernelIdeal.τ).loc Cert.KernelIdeal.main_arg6) :=
    Cert.KernelIdeal.Gen.V_main_arg6 m 0
  rw [e]
  exact h _

theorem frame_kernelIdeal : Cert.quiescent_KernelIdeal := by
  intro m ρ hP
  refine (θ_run _ _ _).mono (fun r h => ⟨fun c => (h.1 c).2, h.2⟩) (Cert.KernelIdeal.Gen.run_val m ρ trivial (words_ok m ?_))
  exact Cert.Delta.words_of_range _ _ _ _ _ _ _ (hP 0)

theorem frame_kernel : Cert.quiescent_Kernel := by
  intro m ρ hP
  have hT := Cert.Delta.words_of_range _ _ _ _ _ _ _ (hP 0)
  have h := Cert.KernelIdeal.Gen.run_val (F := Bits) m ρ trivial (words_ok (F := Bits) m hT)
  rw [← Cert.Delta.twin_main, ← Cert.Delta.twin_defs] at h
  exact (θ_run _ _ _).mono (fun r h => ⟨fun c => (h.1 c).2, h.2⟩) h

/-- What the precondition of the value claim gives of the offsets and of the index bytes. -/
theorem kept (m : (ℓ : Loc Cert.KernelIdeal.nD Cert.KernelIdeal.τ Cert.KernelIdeal.sig) → Buf (Elt Ideal) ℓ) (h : Cert.Pre_KernelIdeal_kept_pairs m)
    (c : Dev Cert.KernelIdeal.nD) :
    (∀ y, ((m ((c.tc : Thread Cert.KernelIdeal.nD Cert.KernelIdeal.τ).loc Cert.KernelIdeal.main_arg6)) y : BitVec 32).toNat ≤ 1792) ∧ ∀ y h, h < 2 → Cert.Delta.QuadOK (Cert.Delta.half ((m ((c.tc : Thread Cert.KernelIdeal.nD Cert.KernelIdeal.τ).loc Cert.KernelIdeal.main_arg4)) y) h) := by
  have hp := Cert.Delta.pairs_of_kept _ _ _ _ _ _ _ (h c)
  refine ⟨hp.1, fun y h hh => ?_⟩
  match h, hh with
  | 0, _ => exact Cert.Delta.quadOK_of _ (hp.2 y).1
  | 1, _ => exact Cert.Delta.quadOK_of' _ (hp.2 y).2

theorem frame_kernelIdeal_kept : Cert.quiescent_KernelIdeal_pre_kept_pairs := by
  intro m ρ hP
  exact (θ_run _ _ _).mono (fun r h => ⟨fun c => (h.1 c).2, h.2⟩) (Cert.KernelIdeal.Gen.run_val m ρ trivial (words_ok m (kept m hP 0).1))

/-- The reference's result array is the kernel's. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hT : ∀ y, ((m ((c.tc : Thread Cert.KernelIdeal.nD Cert.KernelIdeal.τ).loc Cert.KernelIdeal.main_arg6)) y : BitVec 32).toNat ≤ 1792)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Read.val_main_v83 (F := Ideal) (Cert.ReferenceIdeal.Value.exitV m' c (Proc.devRef .tc Cert.ReferenceIdeal.main_arg0)) (Cert.ReferenceIdeal.Value.exitV m' c (Proc.devRef .tc Cert.ReferenceIdeal.main_arg2))
      (Cert.ReferenceIdeal.Value.exitV m' c (Proc.devRef .tc Cert.ReferenceIdeal.main_arg3)) (Cert.ReferenceIdeal.Value.exitV m' c (Proc.devRef .tc Cert.ReferenceIdeal.main_arg4))
      (Cert.ReferenceIdeal.Value.exitV m' c (Proc.devRef .tc Cert.ReferenceIdeal.main_arg5)) (Cert.ReferenceIdeal.Value.exitV m' c (Proc.devRef .tc Cert.ReferenceIdeal.main_arg6))
      (Cert.ReferenceIdeal.Value.exitV m' c (Proc.devRef .tc Cert.ReferenceIdeal.main_v0))
      = fun y : Cert.KernelIdeal.S1792x6912.Idx => Cert.Delta.GM m c (y 0) (y 1) := by
  obtain ⟨h0, h1, h2, h3, h4, h5, h6⟩ := h
  rw [Cert.ReferenceIdeal.Value.exit_main_arg0, Cert.ReferenceIdeal.Value.exit_main_arg2, Cert.ReferenceIdeal.Value.exit_main_arg3, Cert.ReferenceIdeal.Value.exit_main_arg4,
    Cert.ReferenceIdeal.Value.exit_main_arg5, Cert.ReferenceIdeal.Value.exit_main_arg6, Cert.ReferenceIdeal.Value.exit_main_v0, h0, h2, h3, h4, h5, h6]
  funext y
  obtain ⟨r, n, rfl⟩ : ∃ (r : Fin 1792) (n : Fin 6912), y = ix2 r n := ⟨y 0, y 1, by
    funext a
    match a with
    | ⟨0, _⟩ => rfl
    | ⟨1, _⟩ => rfl⟩
  refine (Cert.ReferenceIdeal.Read.ref_val _ _ _ _ _ _ _ hT r n).trans ?_
  have e : ∀ k : Fin 2560, (Cert.ReferenceIdeal.Value.reg_main_v0 (F := Ideal) m' c (ix2 k n) : EReal) = (m ((c.tc : Thread Cert.KernelIdeal.nD Cert.KernelIdeal.τ).loc Cert.KernelIdeal.main_arg1)) (ix2 k n) := fun k =>
    (Cert.Delta.Ref.reg_v0 m' c (ix2 k n)).trans (congrFun h1 (ix2 k n))
  show _ = Cert.Delta.GM m c r n
  unfold Cert.Delta.GM Cert.Delta.G
  refine congrArg₂ (fun u v : EReal => u + v) (congrArg₂ (fun u v : EReal => u * v) (Finset.sum_congr rfl fun k _ => congrArg₂ (fun u v : EReal => u * v) rfl (e k)) rfl) rfl

theorem algebraic : Cert.algebraic_KernelIdeal_ReferenceIdeal_pre_kept_pairs := by
  intro m g m' g' hP hargs
  refine ⟨fun c => Cert.KernelIdeal.Gen.outArr m trivial c, ?_, ?_⟩
  · exact (θ_run _ _ _).mono (fun r h => h.1) (Cert.KernelIdeal.Gen.run_val m g trivial (words_ok m (kept m hP 0).1))
  · refine (θ_run _ _ _).mono (fun r h c => ⟨?_, (h c).2⟩) (Cert.ReferenceIdeal.Value.run m' g')
    refine ((h c).1.trans (Cert.ReferenceIdeal.Read.val_main_v83_eq (Cert.ReferenceIdeal.Value.exitV m' c))).trans ?_
    exact (ref_eq m m' c (kept m hP c).1 (hargs c)).trans (Cert.Delta.outArr_at m trivial c (kept m hP c).1 (kept m hP c).2).symm

theorem claim : Cert.Claim :=
  ⟨Cert.Kernel.Gen.facts, Cert.KernelIdeal.Gen.facts, Cert.ReferenceIdeal.Gen.facts, Cert.Pre_offsets_in_rows.Gen.facts, Cert.Pre_kept_pairs.Gen.facts,
    frame_kernel, frame_kernelIdeal, frame_kernelIdeal_kept, fun m ρ _ => Cert.ReferenceIdeal.Gen.frame m ρ, fun m ρ _ => Cert.ReferenceIdeal.Gen.frame m ρ, trivial, algebraic⟩

end Cert.Proof

end
